-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![1024, 1024]⟩ (Layout.meshBlock [2, 2] ![[], [0]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1024]⟩ ⟨2, ![1024, 2048]⟩ (Layout.meshBlock [2, 2] ![[0], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![1024, 1024]⟩ ⟨2, ![1024, 2048]⟩ (Layout.meshBlock [2, 2] ![[], [1]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S512x1024 : Shape := ⟨2, ![512, 1024]⟩
abbrev S1024x1024 : Shape := ⟨2, ![1024, 1024]⟩
abbrev S64x1024 : Shape := ⟨2, ![64, 1024]⟩
abbrev S960x1024 : Shape := ⟨2, ![960, 1024]⟩
abbrev S10 : Shape := ⟨1, ![10]⟩
abbrev S_ : Shape := ⟨0, ![]⟩
abbrev S32x512 : Shape := ⟨2, ![32, 512]⟩
abbrev S32x1024 : Shape := ⟨2, ![32, 1024]⟩
abbrev S1 : Shape := ⟨1, ![1]⟩
abbrev S64x512 : Shape := ⟨2, ![64, 512]⟩
abbrev S128x512 : Shape := ⟨2, ![128, 512]⟩
abbrev S128x1024 : Shape := ⟨2, ![128, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x512, .f32⟩
  | .hbm, ⟨1, _⟩ => ⟨S512x1024, .f32⟩
  | .hbm, ⟨2, _⟩ => ⟨S1024x1024, .f32⟩
  | .local _ .vmem, ⟨0, _⟩ => ⟨S1024x512, .f32⟩
  | .local _ .vmem, ⟨1, _⟩ => ⟨S512x1024, .f32⟩
  | .local _ .vmem, ⟨2, _⟩ => ⟨S1024x1024, .f32⟩
  | .local _ .vmem, ⟨3, _⟩ => ⟨S64x1024, .bf16⟩
  | .local _ .vmem, ⟨4, _⟩ => ⟨S64x1024, .bf16⟩
  | .local _ .vmem, ⟨5, _⟩ => ⟨S960x1024, .fp8e4m3⟩
  | .local _ .vmem, ⟨6, _⟩ => ⟨S960x1024, .fp8e4m3⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_4 : BitVec 32 := 2#32
  let v8 : BitVec 32 := Scalar.muli v6 c2_i32_4
  let v9 : BitVec 32 := Scalar.addi c0_i32 v8
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_5 : BitVec 32 := 1#32
  let v10 : BitVec 32 := Scalar.muli v5 c1_i32_5
  let v11 : BitVec 32 := Scalar.addi v9 v10
  v11.toNat
def k0_dev2 (d0 : Dev nD) : Nat :=
  let c0_i32_17 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_16 : BitVec 32 := 2#32
  let v22 : BitVec 32 := Scalar.muli v6 c2_i32_16
  let v23 : BitVec 32 := Scalar.addi c0_i32_17 v22
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_18 : BitVec 32 := 1#32
  let v24 : BitVec 32 := Scalar.muli v5 c1_i32_18
  let v25 : BitVec 32 := Scalar.addi v23 v24
  v25.toNat
def k0_dev3 (d0 : Dev nD) : Nat :=
  let c0_i32_34 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_33 : BitVec 32 := 2#32
  let v42 : BitVec 32 := Scalar.muli v6 c2_i32_33
  let v43 : BitVec 32 := Scalar.addi c0_i32_34 v42
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_35 : BitVec 32 := 1#32
  let v44 : BitVec 32 := Scalar.muli v5 c1_i32_35
  let v45 : BitVec 32 := Scalar.addi v43 v44
  v45.toNat
def k0_dev4 (d0 : Dev nD) : Nat :=
  let c0_i32_50 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_49 : BitVec 32 := 2#32
  let v62 : BitVec 32 := Scalar.muli v6 c2_i32_49
  let v63 : BitVec 32 := Scalar.addi c0_i32_50 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_51 : BitVec 32 := 1#32
  let v64 : BitVec 32 := Scalar.muli v5 c1_i32_51
  let v65 : BitVec 32 := Scalar.addi v63 v64
  v65.toNat
def k0_dev5 (d0 : Dev nD) : Nat :=
  let c0_i32_66 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_65 : BitVec 32 := 2#32
  let v82 : BitVec 32 := Scalar.muli v6 c2_i32_65
  let v83 : BitVec 32 := Scalar.addi c0_i32_66 v82
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_67 : BitVec 32 := 1#32
  let v84 : BitVec 32 := Scalar.muli v5 c1_i32_67
  let v85 : BitVec 32 := Scalar.addi v83 v84
  v85.toNat
def k0_dev6 (d0 : Dev nD) : Nat :=
  let c0_i32_80 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_79 : BitVec 32 := 2#32
  let v102 : BitVec 32 := Scalar.muli v6 c2_i32_79
  let v103 : BitVec 32 := Scalar.addi c0_i32_80 v102
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_81 : BitVec 32 := 1#32
  let v104 : BitVec 32 := Scalar.muli v5 c1_i32_81
  let v105 : BitVec 32 := Scalar.addi v103 v104
  v105.toNat
def k0_dev7 (d0 : Dev nD) : Nat :=
  let c0_i32_94 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_93 : BitVec 32 := 2#32
  let v122 : BitVec 32 := Scalar.muli v6 c2_i32_93
  let v123 : BitVec 32 := Scalar.addi c0_i32_94 v122
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v124 : BitVec 32 := Scalar.muli v5 c1_i32_95
  let v125 : BitVec 32 := Scalar.addi v123 v124
  v125.toNat
def k0_dev8 (d0 : Dev nD) : Nat :=
  let c0_i32_108 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_107 : BitVec 32 := 2#32
  let v142 : BitVec 32 := Scalar.muli v6 c2_i32_107
  let v143 : BitVec 32 := Scalar.addi c0_i32_108 v142
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v144 : BitVec 32 := Scalar.muli v5 c1_i32_109
  let v145 : BitVec 32 := Scalar.addi v143 v144
  v145.toNat
def k0_dev9 (d0 : Dev nD) : Nat :=
  let c0_i32_122 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_121 : BitVec 32 := 2#32
  let v162 : BitVec 32 := Scalar.muli v6 c2_i32_121
  let v163 : BitVec 32 := Scalar.addi c0_i32_122 v162
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_123 : BitVec 32 := 1#32
  let v164 : BitVec 32 := Scalar.muli v5 c1_i32_123
  let v165 : BitVec 32 := Scalar.addi v163 v164
  v165.toNat
def k0_dev10 (d0 : Dev nD) : Nat :=
  let c0_i32_136 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_135 : BitVec 32 := 2#32
  let v182 : BitVec 32 := Scalar.muli v6 c2_i32_135
  let v183 : BitVec 32 := Scalar.addi c0_i32_136 v182
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_137 : BitVec 32 := 1#32
  let v184 : BitVec 32 := Scalar.muli v5 c1_i32_137
  let v185 : BitVec 32 := Scalar.addi v183 v184
  v185.toNat
def k0_dev11 (d0 : Dev nD) : Nat :=
  let c0_i32_150 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_149 : BitVec 32 := 2#32
  let v202 : BitVec 32 := Scalar.muli v6 c2_i32_149
  let v203 : BitVec 32 := Scalar.addi c0_i32_150 v202
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_151 : BitVec 32 := 1#32
  let v204 : BitVec 32 := Scalar.muli v5 c1_i32_151
  let v205 : BitVec 32 := Scalar.addi v203 v204
  v205.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x2048, .f32⟩
  | .hbm, ⟨2, _⟩ => ⟨S1024x2048, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Chunks.lean ====
/-
The chunks of the exchange: which rows each buffer contributes to each of the ten transfers, and what the
rows hold.

Device `c` of the 2 × 2 mesh computes the product of its two blocks in ten bands of rows, rounds each band
into a narrower type, and sends the rounded band to its partner — the device in the other mesh row, same mesh
column. Bands 0 and 1 travel as bf16 through one pair of buffers, bands 2 to 9 as 8-bit floats through
another. Here: the partner map, the bands of the four kinds of buffer, that the bands of each buffer are
disjoint and cover it, and the values a band holds before and after the partner's band is added.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.PartnerSum

open Cert.KernelIdeal Cert.KernelIdeal.Gen

open Idealize.ShloMosaic
open Idealize.ShloMosaic.TcCoe
open Idealize.SL Idealize.SL.Sem

variable {F : FTy → Type} [FloatOps F]

/-! ## The partner -/

set_option backward.proofsInPublic true in
/-- The device `c` exchanges with: `(x, y)` with `(1 - x, y)`, logical ids `2 x + y`. -/
def peer (c : Dev nD) : Dev nD := ⟨(c.val + 2) % 4, Nat.mod_lt _ (by decide)⟩

/-- The partner's partner is the device itself. -/
theorem peer_peer (c : Dev nD) : peer (peer c) = c := by revert c; decide

/-- The kernel's arithmetic on the device id names the partner, -/
theorem id_peer (c : Dev nD) : ((c.val % 2) + 2) - 2 * (c.val / 2) = (peer c).val := by revert c; decide

/-- the exchange as a permutation of the devices. -/
def pairing : Dev nD ≃ Dev nD := ⟨peer, peer, peer_peer, peer_peer⟩

/-! ## The buffers -/

abbrev aM : Memref sig .tc .vmem S1024x512 .f32 := Memref.whole cc0_stg0_0
abbrev bM : Memref sig .tc .vmem S512x1024 .f32 := Memref.whole cc0_stg1_0
abbrev oM : Memref sig .tc .vmem S1024x1024 .f32 := Memref.whole cc0_stg2_0
/-- Send and landing buffers: of the two bf16 bands, of the eight 8-bit bands. -/
abbrev sH : Memref sig .tc .vmem S64x1024 .bf16 := Memref.whole cc0_scratch0
abbrev rH : Memref sig .tc .vmem S64x1024 .bf16 := Memref.whole cc0_scratch1
abbrev sE : Memref sig .tc .vmem S960x1024 .fp8e4m3 := Memref.whole cc0_scratch2
abbrev rE : Memref sig .tc .vmem S960x1024 .fp8e4m3 := Memref.whole cc0_scratch3

/-! ## The bands -/

/-- The rows of the left operand that band `k` multiplies. -/
def aR : Fin 10 → Rect S1024x512
  | 0 => Rect.unit (s := S1024x512) ![0, 0] S32x512.size inb_S1024x512_S32x512_0_0
  | 1 => Rect.unit (s := S1024x512) ![32, 0] S32x512.size inb_S1024x512_S32x512_32_0
  | 2 => Rect.unit (s := S1024x512) ![64, 0] S64x512.size inb_S1024x512_S64x512_64_0
  | 3 => Rect.unit (s := S1024x512) ![128, 0] S128x512.size inb_S1024x512_S128x512_128_0
  | 4 => Rect.unit (s := S1024x512) ![256, 0] S128x512.size inb_S1024x512_S128x512_256_0
  | 5 => Rect.unit (s := S1024x512) ![384, 0] S128x512.size inb_S1024x512_S128x512_384_0
  | 6 => Rect.unit (s := S1024x512) ![512, 0] S128x512.size inb_S1024x512_S128x512_512_0
  | 7 => Rect.unit (s := S1024x512) ![640, 0] S128x512.size inb_S1024x512_S128x512_640_0
  | 8 => Rect.unit (s := S1024x512) ![768, 0] S128x512.size inb_S1024x512_S128x512_768_0
  | 9 => Rect.unit (s := S1024x512) ![896, 0] S128x512.size inb_S1024x512_S128x512_896_0

/-- The right operand, read whole. -/
abbrev bR : Rect S512x1024 := Rect.unit (s := S512x1024) ![0, 0] S512x1024.size inb_S512x1024_S512x1024_0_0

/-- The rows of the result that band `k` fills. -/
def oR : Fin 10 → Rect S1024x1024
  | 0 => Rect.unit (s := S1024x1024) ![0, 0] S32x1024.size inb_S1024x1024_S32x1024_0_0
  | 1 => Rect.unit (s := S1024x1024) ![32, 0] S32x1024.size inb_S1024x1024_S32x1024_32_0
  | 2 => Rect.unit (s := S1024x1024) ![64, 0] S64x1024.size inb_S1024x1024_S64x1024_64_0
  | 3 => Rect.unit (s := S1024x1024) ![128, 0] S128x1024.size inb_S1024x1024_S128x1024_128_0
  | 4 => Rect.unit (s := S1024x1024) ![256, 0] S128x1024.size inb_S1024x1024_S128x1024_256_0
  | 5 => Rect.unit (s := S1024x1024) ![384, 0] S128x1024.size inb_S1024x1024_S128x1024_384_0
  | 6 => Rect.unit (s := S1024x1024) ![512, 0] S128x1024.size inb_S1024x1024_S128x1024_512_0
  | 7 => Rect.unit (s := S1024x1024) ![640, 0] S128x1024.size inb_S1024x1024_S128x1024_640_0
  | 8 => Rect.unit (s := S1024x1024) ![768, 0] S128x1024.size inb_S1024x1024_S128x1024_768_0
  | 9 => Rect.unit (s := S1024x1024) ![896, 0] S128x1024.size inb_S1024x1024_S128x1024_896_0

/-- The rows of the bf16 buffers that the first two bands use. -/
def hR : Fin 2 → Rect S64x1024
  | 0 => Rect.unit (s := S64x1024) ![0, 0] S32x1024.size inb_S64x1024_S32x1024_0_0
  | 1 => Rect.unit (s := S64x1024) ![32, 0] S32x1024.size inb_S64x1024_S32x1024_32_0

/-- The rows of the 8-bit buffers that the other eight bands use. -/
def eR : Fin 8 → Rect S960x1024
  | 0 => Rect.unit (s := S960x1024) ![0, 0] S64x1024.size inb_S960x1024_S64x1024_0_0
  | 1 => Rect.unit (s := S960x1024) ![64, 0] S128x1024.size inb_S960x1024_S128x1024_64_0
  | 2 => Rect.unit (s := S960x1024) ![192, 0] S128x1024.size inb_S960x1024_S128x1024_192_0
  | 3 => Rect.unit (s := S960x1024) ![320, 0] S128x1024.size inb_S960x1024_S128x1024_320_0
  | 4 => Rect.unit (s := S960x1024) ![448, 0] S128x1024.size inb_S960x1024_S128x1024_448_0
  | 5 => Rect.unit (s := S960x1024) ![576, 0] S128x1024.size inb_S960x1024_S128x1024_576_0
  | 6 => Rect.unit (s := S960x1024) ![704, 0] S128x1024.size inb_S960x1024_S128x1024_704_0
  | 7 => Rect.unit (s := S960x1024) ![832, 0] S128x1024.size inb_S960x1024_S128x1024_832_0

theorem oR_stride (k : Fin 10) : ∀ a, (oR k).stride a = 1 := by fin_cases k <;> exact fun _ => rfl
theorem hR_stride (k : Fin 2) : ∀ a, (hR k).stride a = 1 := by fin_cases k <;> exact fun _ => rfl
theorem eR_stride (k : Fin 8) : ∀ a, (eR k).stride a = 1 := by fin_cases k <;> exact fun _ => rfl

/-! ## Bands of rows: disjoint when their row ranges are, covering when the ranges cover -/

section Bands

variable {N : ℕ} {T : Type}

/-- `r` is the full-width band of rows `lo ≤ i < lo + n` of an `N`-row buffer of 1024 columns. -/
def IsBand (r : Rect ⟨2, ![N, 1024]⟩) (lo n : ℕ) : Prop :=
  ∀ i : Shape.Idx ⟨2, ![N, 1024]⟩, i ∈ r.set ↔ lo ≤ (i 0).val ∧ (i 0).val < lo + n

/-- A unit-stride rectangle that starts at column 0 and is 1024 columns wide is a band. -/
theorem isBand_unit (off size : Fin 2 → ℕ) (inb) (h1 : off 1 = 0) (h2 : size 1 = 1024) :
    IsBand (N := N) (Rect.unit (s := ⟨2, ![N, 1024]⟩) off size inb) (off 0) (size 0) := fun i => by
  rw [Rect.mem_set_unit]
  constructor
  · exact fun h => h 0
  · intro h a
    match a with
    | ⟨0, _⟩ => exact h
    | ⟨1, _⟩ =>
      refine ⟨by show off 1 ≤ _; rw [h1]; exact Nat.zero_le _, ?_⟩
      show _ < off 1 + size 1
      rw [h1, h2, Nat.zero_add]; exact (i 1).isLt

/-- Bands whose row ranges are pairwise apart are disjoint, -/
theorem bands_disjoint (r : T → Rect ⟨2, ![N, 1024]⟩) (lo n : T → ℕ) (hb : ∀ t, IsBand (r t) (lo t) (n t))
    (h : ∀ t t', t ≠ t' → lo t + n t ≤ lo t' ∨ lo t' + n t' ≤ lo t) :
    ∀ t t', t ≠ t' → Disjoint (r t).set (r t').set := fun t t' ht => by
  rw [Finset.disjoint_left]
  intro i h1 h2
  have h1 := (hb t i).mp h1
  have h2 := (hb t' i).mp h2
  rcases h t t' ht with h | h <;> omega

/-- and bands whose row ranges take in every row cover the buffer. -/
theorem bands_cover [Fintype T] (r : T → Rect ⟨2, ![N, 1024]⟩) (lo n : T → ℕ) (hb : ∀ t, IsBand (r t) (lo t) (n t))
    (h : ∀ i, i < N → ∃ t, lo t ≤ i ∧ i < lo t + n t) :
    (Finset.univ : Finset T).biUnion (fun t => (r t).set) = Finset.univ := by
  ext i
  refine ⟨fun _ => Finset.mem_univ _, fun _ => ?_⟩
  obtain ⟨t, ht⟩ := h (i 0).val (i 0).isLt
  exact Finset.mem_biUnion.mpr ⟨t, Finset.mem_univ _, (hb t i).mpr ht⟩

end Bands

/-- First row and number of rows: of the result's bands, -/
def oLo : Fin 10 → ℕ := ![0, 32, 64, 128, 256, 384, 512, 640, 768, 896]
def oLen : Fin 10 → ℕ := ![32, 32, 64, 128, 128, 128, 128, 128, 128, 128]
/-- of the bf16 buffers', -/
def hLo : Fin 2 → ℕ := ![0, 32]
def hLen : Fin 2 → ℕ := ![32, 32]
/-- and of the 8-bit buffers'. -/
def eLo : Fin 8 → ℕ := ![0, 64, 192, 320, 448, 576, 704, 832]
def eLen : Fin 8 → ℕ := ![64, 128, 128, 128, 128, 128, 128, 128]

theorem oR_band (k : Fin 10) : IsBand (N := 1024) (oR k) (oLo k) (oLen k) := by fin_cases k <;> exact isBand_unit _ _ (by decide) rfl rfl
theorem hR_band (k : Fin 2) : IsBand (N := 64) (hR k) (hLo k) (hLen k) := by fin_cases k <;> exact isBand_unit _ _ (by decide) rfl rfl
theorem eR_band (k : Fin 8) : IsBand (N := 960) (eR k) (eLo k) (eLen k) := by fin_cases k <;> exact isBand_unit _ _ (by decide) rfl rfl

theorem oR_disj : ∀ t t', t ≠ t' → Disjoint (oR t).set (oR t').set := bands_disjoint oR oLo oLen oR_band (by decide)
theorem hR_disj : ∀ t t', t ≠ t' → Disjoint (hR t).set (hR t').set := bands_disjoint hR hLo hLen hR_band (by decide)
theorem eR_disj : ∀ t t', t ≠ t' → Disjoint (eR t).set (eR t').set := bands_disjoint eR eLo eLen eR_band (by decide)

theorem oR_cover : (Finset.univ : Finset (Fin 10)).biUnion (fun t => (oR t).set) = Finset.univ :=
  bands_cover oR oLo oLen oR_band (by decide)
theorem hR_cover : (Finset.univ : Finset (Fin 2)).biUnion (fun t => (hR t).set) = Finset.univ :=
  bands_cover hR hLo hLen hR_band (by decide)
theorem eR_cover : (Finset.univ : Finset (Fin 8)).biUnion (fun t => (eR t).set) = Finset.univ :=
  bands_cover eR eLo eLen eR_band (by decide)

/-- The buffers' bands as memrefs. -/
abbrev oS (k : Fin 10) := oM.slice (oR k) (oR_stride k)
abbrev sHS (i : Fin 2) := sH.slice (hR i) (hR_stride i)
abbrev rHS (i : Fin 2) := rH.slice (hR i) (hR_stride i)
abbrev sES (i : Fin 8) := sE.slice (eR i) (eR_stride i)
abbrev rES (i : Fin 8) := rE.slice (eR i) (eR_stride i)

/-- One thing per band, given for the bf16 bands and for the 8-bit bands. -/
def pick {α : Sort*} (H : Fin 2 → α) (E : Fin 8 → α) : Fin 10 → α
  | 0 => H 0 | 1 => H 1
  | 2 => E 0 | 3 => E 1 | 4 => E 2 | 5 => E 3 | 6 => E 4 | 7 => E 5 | 8 => E 6 | 9 => E 7

/-- What holds of every bf16 band's and of every 8-bit band's holds of every band's. -/
theorem pick_all {α : Sort*} {H : Fin 2 → α} {E : Fin 8 → α} {p : α → Prop} (hH : ∀ i, p (H i)) (hE : ∀ i, p (E i)) (k : Fin 10) :
    p (pick H E k) := by
  fin_cases k <;> first | exact hH _ | exact hE _

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- The two operand blocks as staged on device `c`. -/
def aAt (c : Dev nD) : (cc0_stg0_0 : Ref sig .tc).ty.Contents (Elt F) :=
  (win0_0.blk (0 : Fin 1)).view.read (Elt F) ((s₀ m ρ).mem ((c : Thread nD τ).loc main_arg0))
def bAt (c : Dev nD) : (cc0_stg1_0 : Ref sig .tc).ty.Contents (Elt F) :=
  (win0_1.blk (0 : Fin 1)).view.read (Elt F) ((s₀ m ρ).mem ((c : Thread nD τ).loc main_arg1))

/-- The rows of the left operand that band `k` loads, and the right operand as loaded. -/
def aRd (c : Dev nD) (k : Fin 10) : (aR k).shape.Idx → Elt F .f32 := aM.view.readAt (Elt F) (aR k).toLoadRect (aAt m ρ c)
def bRd (c : Dev nD) : S512x1024.Idx → Elt F .f32 := bM.view.readAt (Elt F) bR.toLoadRect (bAt m ρ c)

/-- Band `k` of the product of device `c`'s own blocks. -/
def own (c : Dev nD) : (k : Fin 10) → (oR k).shape.Idx → Elt F .f32
  | 0 => k0_pay1 (aRd m ρ c 0) (bRd m ρ c)
  | 1 => k0_pay3 (aRd m ρ c 1) (bRd m ρ c)
  | 2 => k0_pay5 (aRd m ρ c 2) (bRd m ρ c)
  | 3 => k0_pay7 (aRd m ρ c 3) (bRd m ρ c)
  | 4 => k0_pay9 (aRd m ρ c 4) (bRd m ρ c)
  | 5 => k0_pay13 (k0_pay11 (aRd m ρ c 5)) (k0_pay12 (bRd m ρ c)) (constant S128x1024 .f32 0x00000000#32)
  | 6 => k0_pay15 (aRd m ρ c 6) (bRd m ρ c)
  | 7 => k0_pay17 (aRd m ρ c 7) (bRd m ρ c)
  | 8 => k0_pay20 (k0_pay19 (aRd m ρ c 8)) (bRd m ρ c)
  | 9 => k0_pay22 (aRd m ρ c 9) (bRd m ρ c)

/-- What device `c` sends of its bands: the first two rounded to bf16, -/
def hSent (c : Dev nD) : (i : Fin 2) → (hR i).shape.Idx → Elt F .bf16
  | 0 => k0_pay2 (aRd m ρ c 0) (bRd m ρ c)
  | 1 => k0_pay4 (aRd m ρ c 1) (bRd m ρ c)

/-- the others to 8-bit floats. -/
def eSent (c : Dev nD) : (i : Fin 8) → (eR i).shape.Idx → Elt F .fp8e4m3
  | 0 => k0_pay6 (k0_pay5 (aRd m ρ c 2) (bRd m ρ c))
  | 1 => k0_pay8 (aRd m ρ c 3) (bRd m ρ c)
  | 2 => k0_pay10 (aRd m ρ c 4) (bRd m ρ c)
  | 3 => k0_pay14 (k0_pay11 (aRd m ρ c 5)) (k0_pay12 (bRd m ρ c)) (constant S128x1024 .f32 0x00000000#32)
  | 4 => k0_pay16 (aRd m ρ c 6) (bRd m ρ c)
  | 5 => k0_pay18 (aRd m ρ c 7) (bRd m ρ c)
  | 6 => k0_pay21 (k0_pay19 (aRd m ρ c 8)) (bRd m ρ c)
  | 7 => k0_pay23 (aRd m ρ c 9) (bRd m ρ c)

/-- Band `k` of device `c`'s result: its own band plus its partner's as received. -/
def tot (c : Dev nD) : (k : Fin 10) → (oR k).shape.Idx → Elt F .f32
  | 0 => k0_pay24 (hSent m ρ (peer c) 0) (own m ρ c 0)
  | 1 => k0_pay25 (hSent m ρ (peer c) 1) (own m ρ c 1)
  | 2 => k0_pay26 (eSent m ρ (peer c) 0) (own m ρ c 2)
  | 3 => k0_pay27 (eSent m ρ (peer c) 1) (own m ρ c 3)
  | 4 => k0_pay28 (eSent m ρ (peer c) 2) (own m ρ c 4)
  | 5 => k0_pay29 (eSent m ρ (peer c) 3) (own m ρ c 5)
  | 6 => k0_pay30 (eSent m ρ (peer c) 4) (own m ρ c 6)
  | 7 => k0_pay31 (eSent m ρ (peer c) 5) (own m ρ c 7)
  | 8 => k0_pay32 (eSent m ρ (peer c) 6) (own m ρ c 8)
  | 9 => k0_pay33 (eSent m ρ (peer c) 7) (own m ρ c 9)

/-- Device `c`'s result: the ten bands put together. -/
def outAt (c : Dev nD) : (cc0_stg2_0 : Ref sig .tc).ty.Contents (Elt F) := Rect.glue oR oR_cover (tot m ρ c)

/-- The result's rows in band `k` are that band. -/
theorem outAt_band (c : Dev nD) (k : Fin 10) : (fun y => outAt m ρ c ((oR k).emb y)) = tot m ρ c k :=
  funext fun y => Rect.glue_emb oR oR_cover oR_disj (tot m ρ c) k y

end Cert.PartnerSum

end
-- ==== Proof.Protocol.lean ====
/-
The protocol the four devices run, as schedules of their semaphore cells.

Every device has 21 cells that matter: the runtime's barrier semaphore, one send semaphore per band and one
receive semaphore per band. Each cell runs one round of one duty. The partner pays the barrier with its whole
landing space, cut into the ten bands; a device's own transfer pays its send semaphore with the band of the
send buffer it read; the partner's transfer pays the receive semaphore with the landing band, holding what the
partner sent. Waits are ordered barrier before receive: when a device waits at its barrier it owes only
receive credits.
-/
module

public import proofs.«01_k».proof.Proof.Chunks

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the pipeline library's and this protocol's, both with one duty per round -/

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

variable (m : (ℓ : Loc nD τ sig) → Buf (Elt F) ℓ) (ρ : Dev nD → PrngReg)

/-! ## Cells -/

/-- The runtime's barrier semaphore, -/
abbrev barS : Sem sig := (SemArray.scalar (sig.barrier 0 rfl) : Sems sig S_).sem
/-- band `k`'s send semaphore, -/
def sendS (k : Fin 10) : DmaSem sig := (⟨3 + k.val, by have := k.isLt; show _ < 23; omega⟩ : Fin 23)
/-- band `k`'s receive semaphore. -/
def recvS (k : Fin 10) : DmaSem sig := (⟨13 + k.val, by have := k.isLt; show _ < 23; omega⟩ : Fin 23)

/-- The band a transfer semaphore serves. -/
def bandOf (q : DmaSem sig) : Fin 10 := ⟨((q : Fin 23).val + 7) % 10, Nat.mod_lt _ (by decide)⟩
/-- Whether a transfer semaphore is a receive semaphore. -/
def isRecv (q : DmaSem sig) : Bool := decide (13 ≤ (q : Fin 23).val)

theorem bandOf_send (k : Fin 10) : bandOf (sendS k) = k := by revert k; decide
theorem bandOf_recv (k : Fin 10) : bandOf (recvS k) = k := by revert k; decide
theorem isRecv_send (k : Fin 10) : isRecv (sendS k) = false := by revert k; decide
theorem isRecv_recv (k : Fin 10) : isRecv (recvS k) = true := by revert k; decide

abbrev barCell (c : Dev nD) : GSem nD τ sig := ((c : Thread nD τ), .reg barS)
abbrev sendCell (c : Dev nD) (k : Fin 10) : GSem nD τ sig := ((c : Thread nD τ), .dma (sendS k))
abbrev recvCell (c : Dev nD) (k : Fin 10) : GSem nD τ sig := ((c : Thread nD τ), .dma (recvS k))

/-- The kernel's own transfer semaphores: ten to send, ten to receive; -/
abbrev Own : Type := Fin 10 ⊕ Fin 10
def osem : Own → SemLoc sig := Sum.elim (fun k => .dma (sendS k)) (fun k => .dma (recvS k))
/-- with the barrier, a device's cells. -/
abbrev Slot : Type := Unit ⊕ Own
def slotSem : Slot → SemLoc sig := Sum.elim (fun _ => .reg barS) osem
abbrev cellAt (c : Dev nD) (j : Slot) : GSem nD τ sig := ((c : Thread nD τ), slotSem j)

abbrev barJ : Slot := .inl ()
abbrev sendJ (k : Fin 10) : Slot := .inr (.inl k)
abbrev recvJ (k : Fin 10) : Slot := .inr (.inr k)

/-- What band `k`'s transfer credits its semaphores with. -/
def credit : Fin 10 → ℕ := pick (fun i => (rHS i).view.dmaCredit) (fun i => (rES i).view.dmaCredit)

theorem credit_pos (k : Fin 10) : 0 < credit k := by
  unfold credit
  exact pick_all (p := fun n => 0 < n) (fun i => View.dmaCredit_pos _ (by fin_cases i <;> decide)) (fun i => View.dmaCredit_pos _ (by fin_cases i <;> decide)) k

/-! ## The bands as resources -/

/-- Band `k` of device `c`'s result, send and landing buffers, holding anything. -/
def anyO (c : Dev nD) (k : Fin 10) : sProp 𝕄 := iprop(∃ X, ownsTc c (oS k) fullShare X)
def anyS (c : Dev nD) : Fin 10 → sProp 𝕄 :=
  pick (fun i => iprop(∃ X, ownsTc c (sHS i) fullShare X)) (fun i => iprop(∃ X, ownsTc c (sES i) fullShare X))
def anyR (c : Dev nD) : Fin 10 → sProp 𝕄 :=
  pick (fun i => iprop(∃ X, ownsTc c (rHS i) fullShare X)) (fun i => iprop(∃ X, ownsTc c (rES i) fullShare X))

/-- Band `k` of device `c`'s send buffer, holding its rounded band; -/
def filled (c : Dev nD) : Fin 10 → sProp 𝕄 :=
  pick (fun i => ownsTc c (sHS i) fullShare (hSent m ρ c i)) (fun i => ownsTc c (sES i) fullShare (eSent m ρ c i))
/-- band `k` of its landing buffer, holding its partner's. -/
def landed (c : Dev nD) : Fin 10 → sProp 𝕄 :=
  pick (fun i => ownsTc c (rHS i) fullShare (hSent m ρ (peer c) i)) (fun i => ownsTc c (rES i) fullShare (eSent m ρ (peer c) i))

/-- What the partner's signal hands device `c`: the partner's landing bands. -/
def lent (c : Dev nD) : sProp 𝕄 := bigSep Finset.univ fun k : Fin 10 => anyR (peer c) k

omit [FloatOps F] in
instance anyS_storable (c : Dev nD) (k : Fin 10) : BI.Storable (upEmb : UEmb _ 𝕄) (anyS (F := F) c k) := by
  fin_cases k <;> (dsimp only [anyS, pick]; infer_instance)
omit [FloatOps F] in
instance anyR_storable (c : Dev nD) (k : Fin 10) : BI.Storable (upEmb : UEmb _ 𝕄) (anyR (F := F) c k) := by
  fin_cases k <;> (dsimp only [anyR, pick]; infer_instance)
instance landed_storable (c : Dev nD) (k : Fin 10) : BI.Storable (upEmb : UEmb _ 𝕄) (landed (F := F) m ρ c k) := by
  fin_cases k <;> (dsimp only [landed, pick]; infer_instance)
omit [FloatOps F] in
instance lent_storable (c : Dev nD) : BI.Storable (upEmb : UEmb _ 𝕄) (lent (F := F) c) := by unfold lent; infer_instance

/-! ## The schedule -/

/-- Round 0 has the one duty, later rounds none. The barrier's is one unit and hands over the partner's landing
    bands; a transfer's is its credit and hands over the band at its end of the transfer. -/
def sched : Rounds.Schedule (GSem nD τ sig) Unit 𝕄 where
  duties _ r := if r = 0 then {()} else ∅
  unitless _ := False
  amount g _ _ := match g.2 with
    | .reg _ => 1
    | .dma q => credit (bandOf q)
  payload g _ _ := match g.2 with
    | .reg _ => lent g.1.1
    | .dma q => if isRecv q = true then landed m ρ g.1.1 (bandOf q) else anyS g.1.1 (bandOf q)
  amount_pos g _ _ _ := by
    rcases g with ⟨t, q | q⟩
    · exact Nat.one_pos
    · exact credit_pos _

instance sched_storable (g : GSem nD τ sig) (r : ℕ) (d : Unit) : BI.Storable (upEmb : UEmb _ 𝕄) ((sched (F := F) m ρ).payload g r d) := by
  rcases g with ⟨t, q | q⟩
  · show BI.Storable upEmb (lent t.1); infer_instance
  · show BI.Storable upEmb (if isRecv q = true then landed m ρ t.1 (bandOf q) else anyS t.1 (bandOf q))
    split <;> infer_instance

section Reads

variable (c : Dev nD) (k : Fin 10)

theorem duties_zero (g : GSem nD τ sig) : (sched (F := F) m ρ).duties g 0 = {()} := by dsimp only [sched]; exact if_pos rfl
theorem mem_duties (g : GSem nD τ sig) : () ∈ (sched (F := F) m ρ).duties g 0 := by rw [duties_zero]; exact Finset.mem_singleton_self _
theorem duties_later (g : GSem nD τ sig) : ∀ r, 0 + 1 ≤ r → (sched (F := F) m ρ).duties g r = ∅ := fun r hr => by dsimp only [sched]; exact if_neg (by omega)

theorem expect_eq (g : GSem nD τ sig) : (sched (F := F) m ρ).expect g 0 = (sched (F := F) m ρ).amount g 0 () := by
  unfold Schedule.expect Schedule.amountOf; rw [duties_zero, Finset.sum_singleton]

theorem rest_eq (g : GSem nD τ sig) :
    bigSep ((sched (F := F) m ρ).duties g 0 \ ∅) (fun d => (sched (F := F) m ρ).payload g 0 d) = (sched (F := F) m ρ).payload g 0 () := by
  rw [Finset.sdiff_empty, duties_zero, bigSep_singleton]

theorem amount_bar : (sched (F := F) m ρ).amount (barCell c) 0 () = 1 := rfl
theorem amount_send : (sched (F := F) m ρ).amount (sendCell c k) 0 () = credit k := congrArg credit (bandOf_send k)
theorem amount_recv : (sched (F := F) m ρ).amount (recvCell c k) 0 () = credit k := congrArg credit (bandOf_recv k)

theorem payload_bar : (sched (F := F) m ρ).payload (barCell c) 0 () = lent c := rfl
theorem payload_send : (sched (F := F) m ρ).payload (sendCell c k) 0 () = anyS c k := by
  show (if isRecv (sendS k) = true then landed m ρ c (bandOf (sendS k)) else anyS c (bandOf (sendS k))) = _
  rw [isRecv_send, bandOf_send]; exact if_neg Bool.false_ne_true
theorem payload_recv : (sched (F := F) m ρ).payload (recvCell c k) 0 () = landed m ρ c k := by
  show (if isRecv (recvS k) = true then landed m ρ c (bandOf (recvS k)) else anyS c (bandOf (recvS k))) = _
  rw [isRecv_recv, bandOf_recv]; exact if_pos rfl

end Reads

/-! ## Debts and levels -/

/-- The receive credits device `c` still owes its partner when it has sent the bands before `n`. -/
def oweFrom (c : Dev nD) (n : ℕ) : CellTallies nD τ sig Unit :=
  ∑ k ∈ Finset.univ.filter (fun k : Fin 10 => n ≤ k.val), tallyAt (recvCell (peer c) k) () (credit k)

/-- What it owes at launch: those of all ten bands and one unit to its partner's barrier. -/
def owed₀ (c : Dev nD) : CellTallies nD τ sig Unit := oweFrom c 0 + tallyAt (barCell (peer c)) () 1

theorem oweFrom_peel (c : Dev nD) (k : Fin 10) :
    oweFrom c k.val = oweFrom c (k.val + 1) + tallyAt (recvCell (peer c) k) () (credit k) := by
  unfold oweFrom
  have h : Finset.univ.filter (fun j : Fin 10 => k.val ≤ j.val) = insert k (Finset.univ.filter (fun j : Fin 10 => k.val + 1 ≤ j.val)) := by
    ext j
    simp only [Finset.mem_filter, Finset.mem_univ, true_and, Finset.mem_insert, Fin.ext_iff]
    omega
  rw [h, Finset.sum_insert (by simp), add_comm]

theorem oweFrom_ten (c : Dev nD) : oweFrom c 10 = 0 := by
  unfold oweFrom
  rw [Finset.filter_false_of_mem (fun k _ => by have := k.isLt; omega), Finset.sum_empty]

/-- Debts to the partner's receive cells only. -/
theorem oweFrom_at {c : Dev nD} {n : ℕ} {g : GSem nD τ sig} {u : Unit} (h : 0 < oweFrom c n g u) : ∃ k, g = recvCell (peer c) k := by
  by_contra hn
  refine absurd h (Nat.not_lt.mpr (Nat.le_of_eq ?_))
  unfold oweFrom
  rw [Finset.sum_apply, Finsupp.finset_sum_apply]
  refine Finset.sum_eq_zero fun k _ => ?_
  rw [tallyAt_apply, if_neg fun h' => hn ⟨k, h'.1⟩]

/-- The index sets of the cells: one index on the devices' main threads; -/
def L (g : GSem nD τ sig) : Finset Unit := if g.1.2 = .tc then {()} else ∅
/-- levels: barriers 1, receive cells 2, all others (staging, send) 0. -/
def lv (g : GSem nD τ sig) (_ : Unit) : ℕ := match g.2 with
  | .reg _ => 1
  | .dma q => if isRecv q = true then 2 else 0

theorem L_of_ne (g : GSem nD τ sig) (h : g.1.2 ≠ .tc) : L g = ∅ := if_neg h
theorem mem_L (c : Dev nD) (sm : SemLoc sig) (u : Unit) : u ∈ L ((c : Thread nD τ), sm) := by
  unfold L; rw [if_pos rfl]; exact Finset.mem_singleton_self _
theorem lv_recv (c : Dev nD) (k : Fin 10) (u : Unit) : lv (recvCell c k) u = 2 := by
  show (if isRecv (recvS k) = true then 2 else 0) = 2; rw [isRecv_recv]; rfl

/-- A device may wait at a staging or send semaphore under its launch debt; -/
theorem mayWait_low (c : Dev nD) (q : DmaSem sig) (hq : isRecv q = false) :
    (levAts L lv : sProp 𝕄) ⊢ MayWait (c : Thread nD τ) (.dma q) () (owed₀ c) := by
  have hcell : ∀ g u, 0 < owed₀ c g u → (∃ k, g = recvCell (peer c) k) ∨ g = barCell (peer c) := fun g u hg => by
    unfold owed₀ at hg
    rw [Pi.add_apply, Finsupp.add_apply] at hg
    rcases Nat.eq_zero_or_pos (oweFrom c 0 g u) with h0 | h0
    · rw [h0, Nat.zero_add, tallyAt_apply] at hg
      by_cases h : g = barCell (peer c) ∧ u = ()
      · exact .inr h.1
      · rw [if_neg h] at hg; exact absurd hg (Nat.lt_irrefl 0)
    · exact .inl (oweFrom_at h0)
  refine MayOwe.of_cut (L := L) (lev := lv) 0 (fun p hp => by rw [Finset.mem_singleton.mp hp]; exact mem_L c _ _)
    (fun g u hg => by rcases hcell g u hg with ⟨k, rfl⟩ | rfl <;> exact mem_L _ _ _)
    (fun p hp => by
      rw [Finset.mem_singleton.mp hp]
      show (if isRecv q = true then 2 else 0) ≤ 0
      rw [hq]; exact Nat.le_refl 0)
    (fun g u hg => by
      rcases hcell g u hg with ⟨k, rfl⟩ | rfl
      · rw [lv_recv]; decide
      · exact Nat.one_pos)

/-- at its barrier under the receive credits it owes. -/
theorem mayWait_bar (c : Dev nD) : (levAts L lv : sProp 𝕄) ⊢ MayWait (c : Thread nD τ) (.reg barS) () (oweFrom c 0) :=
  MayOwe.of_cut (L := L) (lev := lv) 1 (fun p hp => by rw [Finset.mem_singleton.mp hp]; exact mem_L c _ _)
    (fun g u hg => by obtain ⟨k, rfl⟩ := oweFrom_at hg; exact mem_L _ _ _)
    (fun p hp => by rw [Finset.mem_singleton.mp hp]; exact Nat.le_refl 1)
    (fun g u hg => by obtain ⟨k, rfl⟩ := oweFrom_at hg; rw [lv_recv]; decide)

/-! ## The records: what every device may consult -/

/-- Every cell's invariant, at the names `K`, and that every cell has reached round 0. -/
def records (K : Dev nD × Slot → ℕ) : sProp 𝕄 :=
  iprop((bigSep Finset.univ fun cj : Dev nD × Slot => cellInv ER (sched m ρ) (K cj) (cellAt cj.1 cj.2))
    ∗ bigSep Finset.univ fun cj : Dev nD × Slot => reached ER (cellAt cj.1 cj.2) 0)

instance records_persistent (K : Dev nD × Slot → ℕ) : BI.Persistent (records m ρ K) := by unfold records; infer_instance

/-- One cell's invariant out of the records; -/
theorem records_inv (K : Dev nD × Slot → ℕ) (c : Dev nD) (j : Slot) : records m ρ K ⊢ cellInv ER (sched m ρ) (K (c, j)) (cellAt c j) := by
  unfold records
  exact sep_elim_left.trans (bigSep_elim (Finset.mem_univ (c, j)))

/-- and that it has reached round 0. -/
theorem records_reached (K : Dev nD × Slot → ℕ) (c : Dev nD) (j : Slot) : records m ρ K ⊢ reached ER (cellAt c j) 0 := by
  unfold records
  exact sep_elim_right.trans (bigSep_elim (Finset.mem_univ (c, j)))

end Cert.PartnerSum

end
-- ==== Proof.Steps.lean ====
/-
The steps of the kernel's body, each stated once for any band.

A device computes a band (loads its operands' rows, stores the product and the rounded product), sends it,
receives its partner's band and adds it in, and waits for its own transfer to have read the send buffer. Each
step is a rule for the stretch of program that does it, at any band, whichever buffer the band lives in.
-/
module

public import proofs.«01_k».proof.Proof.Protocol

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The rest `p` of device `c`'s body, run to `Q`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Loads and stores of a rectangle owned as a memref -/

section Access

variable (c : Dev nD) {s : Shape} {e : EltTy} {b : Memref sig .tc .vmem s e} {r : Rect s} {hr : ∀ a, r.stride a = 1}
variable {α : Type} {Q : α → sProp (MT nD τ sig Unit (Elt F) ℕ UU ℕ)}

/-- Loading an owned rectangle yields what it holds. -/
theorem load_rect {q : PosShare TreeShare} {X : r.shape.Idx → Elt F e} {hl : b.view.LoadsAt r.toLoadRect}
    {k : (r.shape.Idx → Elt F e) → Prog (TpuEff nD τ sig (Elt F) Λ₀ .tc) α} :
    ownsTc c (b.slice r hr) q X ⊢ iprop((ownsTc c (b.slice r hr) q X -∗ run c (k X) Q) -∗ run c (.op (.load b r.toLoadRect hl) k) Q) := by
  unfold ownsTc owns
  iintro ⟨%f, %hf, H⟩ Hk
  iapply (wp_load_rect 𝒱₀ (c : Thread nD τ) none Set.univ (m := b) (r := r) (f := f) (q := q) (S := (b.slice r hr).view.set) (Finset.Subset.refl _)) $$ H
  iintro H
  rw [show (b.access r).read (Elt F) f = X from hf]
  iapply Hk
  iexists f
  isplitr; · ipureintro; exact hf
  iexact H

/-- Storing to an owned rectangle makes it hold what is stored. -/
theorem store_rect {X w : r.shape.Idx → Elt F e} {hx : (b.access r).Stores Finset.univ} {hm : Finset.univ = Finset.univ ∨ ∀ a, r.stride a = 1}
    {k : PUnit → Prog (TpuEff nD τ sig (Elt F) Λ₀ .tc) α} :
    ownsTc c (b.slice r hr) fullShare X
      ⊢ iprop((ownsTc c (b.slice r hr) fullShare w -∗ run c (k ⟨⟩) Q) -∗ run c (.op (.store b r w Finset.univ hx hm) k) Q) := by
  unfold ownsTc owns
  iintro ⟨%f, %hf, H⟩ Hk
  iapply (wp_store 𝒱₀ (c : Thread nD τ) none Set.univ (m := b) (r := r) (w := w) (Mk := Finset.univ) (f := f) (S := (b.slice r hr).view.set)
    (Finset.Subset.refl _)) $$ H
  iintro H
  iapply Hk
  iexists ((b.access r).write (Elt F) f w Finset.univ)
  isplitr; · ipureintro; exact View.read_write_univ _ _
  iexact H

end Access

/-! ## What a band's two buffers are -/

/-- Band `k` travels from the memref `src` to the partner's memref `dst`, and device `c` sends `X c`. -/
structure Carries (k : Fin 10) {s : Shape} {e : EltTy} (src dst : Memref sig .tc .vmem s e) (X : Dev nD → s.Idx → Elt F e) : Prop where
  anyS : ∀ c, anyS (F := F) c k = iprop(∃ Y, ownsTc c src fullShare Y)
  anyR : ∀ c, anyR (F := F) c k = iprop(∃ Y, ownsTc c dst fullShare Y)
  filled : ∀ c, filled m ρ c k = ownsTc c src fullShare (X c)
  landed : ∀ c, landed m ρ c k = ownsTc c dst fullShare (X (peer c))
  sent : src.view.dmaCredit = credit k
  received : dst.view.dmaCredit = credit k

/-- The first two bands travel through the bf16 buffers, -/
theorem carries_h (i : Fin 2) : Carries m ρ (Fin.castLE (by decide) i) (sHS i) (rHS i) (fun c => hSent m ρ c i) := by
  fin_cases i <;> exact ⟨fun _ => rfl, fun _ => rfl, fun _ => rfl, fun _ => rfl, rfl, rfl⟩

/-- the other eight through the 8-bit buffers. -/
theorem carries_e (i : Fin 8) : Carries m ρ (Fin.natAdd 2 i) (sES i) (rES i) (fun c => eSent m ρ c i) := by
  fin_cases i <;> exact ⟨fun _ => rfl, fun _ => rfl, fun _ => rfl, fun _ => rfl, rfl, rfl⟩

/-! ## The steps of one band -/

/-- What device `c` owes, whatever waits it has on record. -/
def owesAny (c : Dev nD) (O : CellTallies nD τ sig Unit) : sProp 𝕄 := iprop(∃ W, owes (c : Thread nD τ) O W)

/-- Device `c`'s staged operands. -/
def operands (c : Dev nD) : sProp 𝕄 :=
  iprop((((c : Thread nD τ).loc cc0_stg0_0) ↦{fullShare} aAt m ρ c) ∗ (((c : Thread nD τ).loc cc0_stg1_0) ↦{fullShare} bAt m ρ c))

section Band

variable (c : Dev nD) (k : Fin 10) {s : Shape} {e : EltTy} {b d : Memref sig .tc .vmem s e} {r : Rect s} {hr : ∀ a, r.stride a = 1}
variable {α : Type} {Q : α → sProp (MT nD τ sig Unit (Elt F) ℕ UU ℕ)} (K : Dev nD × Slot → ℕ)

/-- COMPUTE: load band `k` of the left operand and the right operand, store the product to band `k` of the result
    and the rounded product to the send buffer. -/
theorem compute_band {X : Dev nD → r.shape.Idx → Elt F e} (hc : Carries m ρ k (b.slice r hr) (d.slice r hr) X)
    {payO : ((aR k).shape.Idx → Elt F .f32) → (bR.shape.Idx → Elt F .f32) → (oR k).shape.Idx → Elt F .f32}
    {payS : ((aR k).shape.Idx → Elt F .f32) → (bR.shape.Idx → Elt F .f32) → r.shape.Idx → Elt F e}
    (hO : payO (aRd m ρ c k) (bRd m ρ c) = own m ρ c k) (hS : payS (aRd m ρ c k) (bRd m ρ c) = X c)
    {h1 h2 h3 h4 h5 h6 h7 h8} {kt : Prog (TpuEff nD τ sig (Elt F) Λ₀ .tc) α} :
    iprop(operands m ρ c ∗ anyO c k ∗ anyS c k)
      ⊢ iprop(((operands m ρ c ∗ ownsTc c (oS k) fullShare (own m ρ c k) ∗ filled m ρ c k) -∗ run c kt Q)
        -∗ run c (.op (.load aM (aR k).toLoadRect h1) fun x => .op (.load bM bR.toLoadRect h2) fun y =>
            .op (.load oM (oR k).toLoadRect h3) fun _ => .op (.store oM (oR k) (payO x y) Finset.univ h4 h5) fun _ =>
            .op (.load b r.toLoadRect h6) fun _ => .op (.store b r (payS x y) Finset.univ h7 h8) fun _ => kt) Q) := by
  rw [hc.anyS, hc.filled]
  unfold operands anyO
  iintro ⟨⟨Ha, Hb⟩, ⟨%XO, HO⟩, ⟨%XS, HS⟩⟩ Hk
  iapply (wp_load 𝒱₀ (c : Thread nD τ) none Set.univ (m := aM) (Finset.subset_univ _)) $$ Ha; iintro Ha
  iapply (wp_load 𝒱₀ (c : Thread nD τ) none Set.univ (m := bM) (Finset.subset_univ _)) $$ Hb; iintro Hb
  iapply (load_rect c) $$ HO; iintro HO
  iapply (store_rect c) $$ HO; iintro HO
  iapply (load_rect c) $$ HS; iintro HS
  iapply (store_rect c) $$ HS; iintro HS
  rw [← hO, ← hS]
  iapply Hk
  isplitl [Ha Hb]
  · isplitl [Ha] <;> iassumption
  isplitl [HO]; · iexact HO
  iexact HS

/-- SEND: the transfer of the filled band to the partner's landing band. -/
theorem send_band {src dst : Memref sig .tc .vmem s e} {X : Dev nD → s.Idx → Elt F e} (hc : Carries m ρ k src dst X)
    {n : Dev nD} (hn : n = peer c) {qS qR : DmaSem sig} (hqS : qS = sendS k) (hqR : qR = recvS k)
    {hsc : (dst : Memref sig (Dev.tc n : Thread nD τ).2.kind .vmem s e).view.ref.isScScratch = false}
    {hsrc : src.view.WordExact} {hdst : dst.view.WordExact}
    {hsem : DmaTarget.Typed .vmem (.dma qR) (.remote (Dev.tc n : Thread nD τ) dst (.dma qS) hsc)}
    {kt : PUnit → Prog (TpuEff nD τ sig (Elt F) Λ₀ .tc) α} :
    iprop(records m ρ K ∗ filled m ρ c k ∗ anyR (peer c) k ∗ owesAny c (oweFrom c k.val)
        ∗ dutyTok ER (sendCell c k) 0 () ∗ dutyTok ER (recvCell (peer c) k) 0 ())
      ⊢ iprop(((cred (tallyAt (sendCell c k) () (credit k)) ∗ owesAny c (oweFrom c (k.val + 1))) -∗ run c (kt ⟨⟩) Q)
          -∗ run c (.op (.enqueueDma src (.remote (Dev.tc n : Thread nD τ) dst (.dma qS) hsc) (.dma qR) hsrc hdst hsem) kt) Q) := by
  subst hn; subst hqS; subst hqR
  rw [hc.filled, hc.anyR]
  unfold ownsTc owns owesAny
  iintro ⟨#HR, ⟨%fs, %hfs, Hs⟩, ⟨%Y, ⟨%fd, %hfd, Hd⟩⟩, ⟨%W, HO⟩, HtS, HtR⟩ Hk
  iapply (Rounds.wp_send_pointsTo 𝒱₀ ER (sched m ρ) (c : Thread nD τ) none (κ₁ := K (c, sendJ k)) (κ₂ := K (peer c, recvJ k))
      (r₁ := 0) (r₂ := 0) (d₁ := ()) (d₂ := ()) (fs := fs) (fd := fd) (mem_duties m ρ _) (mem_duties m ρ _) () () (credit k)
      (show dst.view.amount (.dma (recvS k)) = credit k from hc.received)
      (amount_send m ρ c k) (amount_recv m ρ (peer c) k) (oweFrom c (k.val + 1)) (oweFrom_peel c k) (W := W)
      (by
        rw [payload_send, hc.anyS]
        iintro H; iexists X c; unfold ownsTc owns; iexists fs
        isplitr; · ipureintro; exact hfs
        iexact H)
      (by
        rw [payload_recv, hc.landed, peer_peer]
        iintro H; unfold ownsTc owns; iexists _
        isplitr; rotate_left; · iexact H
        ipureintro; rw [← hfs]; exact View.read_write_univ _ _)) $$ [Hs Hd HO HtS HtR]
  · isplitr; · iapply (records_inv m ρ K c (sendJ k)); iexact HR
    isplitr; · iapply (records_inv m ρ K (peer c) (recvJ k)); iexact HR
    isplitl [Hs]; · iexact Hs
    isplitl [Hd]; · iexact Hd
    isplitl [HO]; · iexact HO
    isplitl [HtS]; · iexact HtS
    isplitr; · iapply (records_reached m ρ K c (sendJ k)); iexact HR
    isplitl [HtR]; · iexact HtR
    iapply (records_reached m ρ K (peer c) (recvJ k)); iexact HR
  iintro ⟨Hc, HO⟩
  iapply Hk
  isplitl [Hc]; · iexact Hc
  iexists W; iexact HO

/-- WAIT for the one round of an own transfer semaphore, with nothing owed: the round's payload, and the semaphore
    at zero again. -/
theorem wait_own {q : DmaSem sig} (j : Own) (hj : osem j = .dma q) {src dst : Memref sig .tc .vmem s e}
    (hn : dst.view.dmaCredit = (sched (F := F) m ρ).amount (cellAt c (.inr j)) 0 ())
    {hsrc : src.view.WordExact} {hdst : dst.view.WordExact} {kt : PUnit → Prog (TpuEff nD τ sig (Elt F) Λ₀ .tc) α} :
    iprop(records m ρ K ∗ cred (tallyAt (cellAt c (.inr j)) () ((sched (F := F) m ρ).amount (cellAt c (.inr j)) 0 ()))
        ∗ owesAny c 0 ∗ atPos ER (cellAt c (.inr j)) 0 ∅ 0)
      ⊢ iprop(((owesAny c 0 ∗ semVal (cellAt c (.inr j)) 0 ∗ (sched m ρ).payload (cellAt c (.inr j)) 0 ()) -∗ run c (kt ⟨⟩) Q)
          -∗ run c (.op (.waitDma2 q src dst hsrc hdst) kt) Q) := by
  have hcell : (((c : Thread nD τ), .dma q) : GSem nD τ sig) = cellAt c (.inr j) := by show _ = ((c : Thread nD τ), osem j); rw [hj]
  unfold owesAny
  rw [← hn, ← hcell]
  iintro ⟨#HR, Hc, ⟨%W, HO⟩, Hat⟩ Hk
  ihave #HI := (records_inv m ρ K c (.inr j)) $$ HR
  iapply (Rounds.wp_wait_rest_token 𝒱₀ ER (sched m ρ) (c : Thread nD τ) none (κ := K (c, .inr j)) (sm := .dma q)
      (wpE_waitDma2_eq 𝒱₀ (c : Thread nD τ) none Set.univ) (Set.mem_univ _) () (O := 0) (W := W) (R := 0) (m := 0) (T := ∅)
      (by rw [Nat.zero_add, expect_eq, hcell]; exact hn)) $$ [Hc HO Hat]
  · isplitr; · rw [hcell]; iexact HI
    isplitl [Hc]; · iexact Hc
    isplitl [HO]; · iexact HO
    isplitr; · rw [MayWait_zero]; iempintro
    iexact Hat
  iintro ⟨HO, Hat, -, Hpay⟩
  ihave Hpay := (Entails.of_eq (rest_eq m ρ _)) $$ Hpay
  imod (Rounds.cell_close ER (sched m ρ) (Set.mem_univ (K (c, .inr j))) (fun h => h) (R := 0 + 1) (duties_later m ρ ((c : Thread nD τ), .dma q))) $$ [Hat] with Hz
  · isplitr; · rw [hcell]; iexact HI
    iexact Hat
  iapply Hk
  isplitl [HO]; · iexists _; iexact HO
  isplitl [Hz] <;> iassumption

/-- RECEIVE: wait for the partner's band, load it, and add it into band `k` of the result. -/
theorem receive_band {X : Dev nD → r.shape.Idx → Elt F e} (hc : Carries m ρ k (b.slice r hr) (d.slice r hr) X)
    {q : DmaSem sig} (hq : q = recvS k)
    {pay : (r.shape.Idx → Elt F e) → ((oR k).shape.Idx → Elt F .f32) → (oR k).shape.Idx → Elt F .f32}
    (ht : pay (X (peer c)) (own m ρ c k) = tot m ρ c k)
    {hsrc hdst h1 h2 h3 h4 h5} {kt : Prog (TpuEff nD τ sig (Elt F) Λ₀ .tc) α} :
    iprop(records m ρ K ∗ owesAny c 0 ∗ ownsTc c (oS k) fullShare (own m ρ c k)
        ∗ cred (tallyAt (recvCell c k) () (credit k)) ∗ atPos ER (recvCell c k) 0 ∅ 0)
      ⊢ iprop(((owesAny c 0 ∗ ownsTc c (oS k) fullShare (tot m ρ c k) ∗ landed m ρ c k ∗ semVal (recvCell c k) 0) -∗ run c kt Q)
          -∗ run c (.op (.waitDma2 q (b.slice r hr) (d.slice r hr) hsrc hdst) fun _ => .op (.load d r.toLoadRect h1) fun x =>
              .op (.load oM (oR k).toLoadRect h2) fun y => .op (.load oM (oR k).toLoadRect h3) fun _ =>
              .op (.store oM (oR k) (pay x y) Finset.univ h4 h5) fun _ => kt) Q) := by
  subst hq
  iintro ⟨#HR, HO, Ho, Hc, Hat⟩ Hk
  iapply (wait_own m ρ c K (.inr k) rfl (hc.received.trans (amount_recv m ρ c k).symm)) $$ [HO Hc Hat]
  · isplitr; · iexact HR
    isplitl [Hc]; · rw [show (sched (F := F) m ρ).amount (cellAt c (recvJ k)) 0 () = credit k from amount_recv m ρ c k]; iexact Hc
    isplitl [HO]; · iexact HO
    iexact Hat
  iintro ⟨HO, Hz, Hl⟩
  ihave Hl := (Entails.of_eq (show (sched m ρ).payload (cellAt c (recvJ k)) 0 () = _ from (payload_recv m ρ c k).trans (hc.landed c))) $$ Hl
  iapply (load_rect c) $$ Hl; iintro Hl
  iapply (load_rect c) $$ Ho; iintro Ho
  iapply (load_rect c) $$ Ho; iintro Ho
  iapply (store_rect c) $$ Ho; iintro Ho
  rw [ht]
  iapply Hk
  rw [hc.landed]
  isplitl [HO]; · iexact HO
  isplitl [Ho]; · iexact Ho
  isplitl [Hl]; · iexact Hl
  iexact Hz

/-- DRAIN: wait for the own transfer to have read the send buffer. -/
theorem drain_band {src dst : Memref sig .tc .vmem s e} {X : Dev nD → s.Idx → Elt F e} (hc : Carries m ρ k src dst X)
    {q : DmaSem sig} (hq : q = sendS k) {hsrc hdst} {kt : PUnit → Prog (TpuEff nD τ sig (Elt F) Λ₀ .tc) α} :
    iprop(records m ρ K ∗ owesAny c 0 ∗ cred (tallyAt (sendCell c k) () (credit k)) ∗ atPos ER (sendCell c k) 0 ∅ 0)
      ⊢ iprop(((owesAny c 0 ∗ anyS c k ∗ semVal (sendCell c k) 0) -∗ run c (kt ⟨⟩) Q)
          -∗ run c (.op (.waitDma2 q dst src hdst hsrc) kt) Q) := by
  subst hq
  iintro ⟨#HR, HO, Hc, Hat⟩ Hk
  iapply (wait_own m ρ c K (.inl k) rfl (hc.sent.trans (amount_send m ρ c k).symm)) $$ [HO Hc Hat]
  · isplitr; · iexact HR
    isplitl [Hc]; · rw [show (sched (F := F) m ρ).amount (cellAt c (sendJ k)) 0 () = credit k from amount_send m ρ c k]; iexact Hc
    isplitl [HO]; · iexact HO
    iexact Hat
  iintro ⟨HO, Hz, Hp⟩
  ihave Hp := (Entails.of_eq (show (sched m ρ).payload (cellAt c (sendJ k)) 0 () = _ from payload_send m ρ c k)) $$ Hp
  iapply Hk
  isplitl [HO]; · iexact HO
  isplitl [Hp]; · iexact Hp
  iexact Hz

end Band

end Cert.PartnerSum

end
-- ==== Proof.Phases.lean ====
/-
The three phases of a device's body as states with a counter.

SENDING counts the bands computed and sent, RECEIVING the bands received and added in, DRAINING the own
transfers seen complete. Each state holds one assertion per band — what the band's resources are before and
after its turn — so that a step of a phase takes the counter from `k` to `k + 1`. Also here: how the buffers,
held whole, come apart into bands and together again.
-/
module

public import proofs.«01_k».proof.Proof.Steps

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## One assertion per band, the first `n` bands having had their turn -/

/-- Band `k`'s assertion: `A k` if it has had its turn, `B k` if not. -/
def turned (n : ℕ) (A B : Fin 10 → sProp 𝕄) (k : Fin 10) : sProp 𝕄 := if k.val < n then A k else B k

theorem turned_zero (A B : Fin 10 → sProp 𝕄) : turned 0 A B = B := funext fun k => if_neg (Nat.not_lt_zero _)
theorem turned_ten (A B : Fin 10 → sProp 𝕄) : turned 10 A B = A := funext fun k => if_pos k.isLt

/-- Band `k`'s turn: its old assertion comes out, the state at `k + 1` comes back for its new one. -/
theorem turn (A B : Fin 10 → sProp 𝕄) (k : Fin 10) {n : ℕ} (hk : k.val = n) :
    bigSep Finset.univ (turned n A B) ⊢ iprop(B k ∗ (A k -∗ bigSep Finset.univ (turned (n + 1) A B))) := by
  subst hk
  have h := bigSep_univ_update (Φ := turned k.val A B) (Ψ := turned (k.val + 1) A B) k fun j hj => by
    have hne : j.val ≠ k.val := fun h => hj (Fin.ext h)
    unfold turned
    by_cases hlt : j.val < k.val
    · rw [if_pos (by omega), if_pos hlt]
    · rw [if_neg (by omega), if_neg hlt]
  rw [show turned k.val A B k = B k from if_neg (Nat.lt_irrefl _), show turned (k.val + 1) A B k = A k from if_pos (Nat.lt_succ_self _)] at h
  exact h

/-! ## The phases -/

section Phases

variable (c : Dev nD) (K : Dev nD × Slot → ℕ)

/-- A band before it is sent: its part of the three buffers and the tokens of the transfer's two duties; -/
def fresh (k : Fin 10) : sProp 𝕄 :=
  iprop(anyO c k ∗ anyS c k ∗ anyR (peer c) k ∗ dutyTok ER (sendCell c k) 0 () ∗ dutyTok ER (recvCell (peer c) k) 0 ())
/-- after: the result's band holds the own product, and the transfer's completion may be waited for. -/
def sent (k : Fin 10) : sProp 𝕄 :=
  iprop(ownsTc c (oS k) fullShare (own m ρ c k) ∗ cred (tallyAt (sendCell c k) () (credit k)))

/-- A band before its partner's is received, -/
def awaited (k : Fin 10) : sProp 𝕄 :=
  iprop(ownsTc c (oS k) fullShare (own m ρ c k) ∗ cred (tallyAt (recvCell c k) () (credit k)) ∗ atPos ER (recvCell c k) 0 ∅ 0)
/-- and after it is added in. -/
def summed (k : Fin 10) : sProp 𝕄 :=
  iprop(ownsTc c (oS k) fullShare (tot m ρ c k) ∗ landed m ρ c k ∗ semVal (recvCell c k) 0)

/-- A band before its own transfer is seen complete, -/
def inFlight (k : Fin 10) : sProp 𝕄 :=
  iprop(cred (tallyAt (sendCell c k) () (credit k)) ∗ atPos ER (sendCell c k) 0 ∅ 0)
/-- and after. -/
def drained (k : Fin 10) : sProp 𝕄 := iprop(anyS c k ∗ semVal (sendCell c k) 0)

def sending (n : ℕ) : sProp 𝕄 :=
  iprop(records m ρ K ∗ operands m ρ c ∗ owesAny c (oweFrom c n) ∗ bigSep Finset.univ (turned n (sent m ρ c) (fresh c)))
def receiving (n : ℕ) : sProp 𝕄 :=
  iprop(records m ρ K ∗ owesAny c 0 ∗ bigSep Finset.univ (turned n (summed m ρ c) (awaited m ρ c)))
def draining (n : ℕ) : sProp 𝕄 :=
  iprop(records m ρ K ∗ owesAny c 0 ∗ bigSep Finset.univ (turned n (drained c) (inFlight c)))

variable (k : Fin 10) {s : Shape} {e : EltTy} {b d : Memref sig .tc .vmem s e} {r : Rect s} {hr : ∀ a, r.stride a = 1}
variable {α : Type} {Q : α → sProp (MT nD τ sig Unit (Elt F) ℕ UU ℕ)}

/-- Band `k`'s turn in SENDING: computed, rounded, sent. -/
theorem sending_step {N N' : ℕ} (hk : k.val = N) (hk' : k.val + 1 = N') {X : Dev nD → r.shape.Idx → Elt F e} (hc : Carries m ρ k (b.slice r hr) (d.slice r hr) X)
    {payO : ((aR k).shape.Idx → Elt F .f32) → (bR.shape.Idx → Elt F .f32) → (oR k).shape.Idx → Elt F .f32}
    {payS : ((aR k).shape.Idx → Elt F .f32) → (bR.shape.Idx → Elt F .f32) → r.shape.Idx → Elt F e}
    (hO : payO (aRd m ρ c k) (bRd m ρ c) = own m ρ c k) (hS : payS (aRd m ρ c k) (bRd m ρ c) = X c)
    {n : Dev nD} (hn : n = peer c) {qS qR : DmaSem sig} (hqS : qS = sendS k) (hqR : qR = recvS k)
    {h1 h2 h3 h4 h5 h6 h7 h8 hsc hsrc hdst hsem} {kt : PUnit → Prog (TpuEff nD τ sig (Elt F) Λ₀ .tc) α} :
    sending m ρ c K N
      ⊢ iprop((sending m ρ c K N' -∗ run c (kt ⟨⟩) Q)
        -∗ run c (.op (.load aM (aR k).toLoadRect h1) fun x => .op (.load bM bR.toLoadRect h2) fun y =>
            .op (.load oM (oR k).toLoadRect h3) fun _ => .op (.store oM (oR k) (payO x y) Finset.univ h4 h5) fun _ =>
            .op (.load b r.toLoadRect h6) fun _ => .op (.store b r (payS x y) Finset.univ h7 h8) fun _ =>
            .op (.enqueueDma (b.slice r hr) (.remote (Dev.tc n : Thread nD τ) (d.slice r hr) (.dma qS) hsc) (.dma qR) hsrc hdst hsem) kt) Q) := by
  subst hk hk'
  unfold sending
  iintro ⟨#HR, Hop, HO, HB⟩ Hk
  ihave HB := (turn (sent m ρ c) (fresh c) k rfl) $$ HB
  icases HB with ⟨Hf, Hback⟩
  unfold fresh
  icases Hf with ⟨Ho, Hs, Hr, HtS, HtR⟩
  iapply (compute_band m ρ c k hc hO hS) $$ [Hop Ho Hs]
  · isplitl [Hop]; · iexact Hop
    isplitl [Ho] <;> iassumption
  iintro ⟨Hop, Ho, Hs⟩
  iapply (send_band m ρ c k K hc hn hqS hqR) $$ [HO Hs Hr HtS HtR]
  · isplitr; · iexact HR
    isplitl [Hs]; · iexact Hs
    isplitl [Hr]; · iexact Hr
    isplitl [HO]; · iexact HO
    isplitl [HtS] <;> iassumption
  iintro ⟨Hc, HO⟩
  iapply Hk
  isplitr; · iexact HR
  isplitl [Hop]; · iexact Hop
  isplitl [HO]; · iexact HO
  iapply Hback
  unfold sent
  isplitl [Ho] <;> iassumption

/-- Band `k`'s turn in RECEIVING: the partner's band waited for and added in. -/
theorem receiving_step {N N' : ℕ} (hk : k.val = N) (hk' : k.val + 1 = N') {X : Dev nD → r.shape.Idx → Elt F e} (hc : Carries m ρ k (b.slice r hr) (d.slice r hr) X)
    {q : DmaSem sig} (hq : q = recvS k)
    {pay : (r.shape.Idx → Elt F e) → ((oR k).shape.Idx → Elt F .f32) → (oR k).shape.Idx → Elt F .f32}
    (ht : pay (X (peer c)) (own m ρ c k) = tot m ρ c k)
    {hsrc hdst h1 h2 h3 h4 h5} {kt : Prog (TpuEff nD τ sig (Elt F) Λ₀ .tc) α} :
    receiving m ρ c K N
      ⊢ iprop((receiving m ρ c K N' -∗ run c kt Q)
          -∗ run c (.op (.waitDma2 q (b.slice r hr) (d.slice r hr) hsrc hdst) fun _ => .op (.load d r.toLoadRect h1) fun x =>
              .op (.load oM (oR k).toLoadRect h2) fun y => .op (.load oM (oR k).toLoadRect h3) fun _ =>
              .op (.store oM (oR k) (pay x y) Finset.univ h4 h5) fun _ => kt) Q) := by
  subst hk hk'
  unfold receiving
  iintro ⟨#HR, HO, HB⟩ Hk
  ihave HB := (turn (summed m ρ c) (awaited m ρ c) k rfl) $$ HB
  icases HB with ⟨Ha, Hback⟩
  unfold awaited
  iapply (receive_band m ρ c k K hc hq ht) $$ [HO Ha]
  · isplitr; · iexact HR
    isplitl [HO] <;> iassumption
  iintro ⟨HO, Hs⟩
  iapply Hk
  isplitr; · iexact HR
  isplitl [HO]; · iexact HO
  iapply Hback
  unfold summed
  iexact Hs

/-- Band `k`'s turn in DRAINING: its own transfer waited for. -/
theorem draining_step {N N' : ℕ} (hk : k.val = N) (hk' : k.val + 1 = N') {src dst : Memref sig .tc .vmem s e} {X : Dev nD → s.Idx → Elt F e} (hc : Carries m ρ k src dst X)
    {q : DmaSem sig} (hq : q = sendS k) {hsrc hdst} {kt : PUnit → Prog (TpuEff nD τ sig (Elt F) Λ₀ .tc) α} :
    draining m ρ c K N
      ⊢ iprop((draining m ρ c K N' -∗ run c (kt ⟨⟩) Q) -∗ run c (.op (.waitDma2 q dst src hdst hsrc) kt) Q) := by
  subst hk hk'
  unfold draining
  iintro ⟨#HR, HO, HB⟩ Hk
  ihave HB := (turn (drained c) (inFlight c) k rfl) $$ HB
  icases HB with ⟨Hi, Hback⟩
  unfold inFlight
  iapply (drain_band m ρ c k K hc hq) $$ [HO Hi]
  · isplitr; · iexact HR
    isplitl [HO] <;> iassumption
  iintro ⟨HO, Hs⟩
  iapply Hk
  isplitr; · iexact HR
  isplitl [HO]; · iexact HO
  iapply Hback
  unfold drained
  iexact Hs

/-! ### Where one phase ends and the next begins -/

/-- All bands sent: the own products stand in the result, no debt is left. -/
theorem sending_ten :
    sending m ρ c K 10 ⊢ iprop(operands m ρ c ∗ owesAny c 0 ∗ (bigSep Finset.univ fun k => ownsTc c (oS k) fullShare (own m ρ c k))
      ∗ bigSep Finset.univ fun k => cred (tallyAt (sendCell c k) () (credit k))) := by
  unfold sending sent
  rw [oweFrom_ten, turned_ten, bigSep_sep']
  iintro ⟨-, H⟩; iexact H

/-- No band received yet; -/
theorem receiving_zero :
    iprop(records m ρ K ∗ owesAny c 0 ∗ (bigSep Finset.univ fun k => ownsTc c (oS k) fullShare (own m ρ c k))
      ∗ (bigSep Finset.univ fun k => cred (tallyAt (recvCell c k) () (credit k))) ∗ bigSep Finset.univ fun k => atPos ER (recvCell c k) 0 ∅ 0)
      ⊢ receiving m ρ c K 0 := by
  unfold receiving awaited
  rw [turned_zero, bigSep_sep', bigSep_sep']

/-- all bands received: the sums stand in the result. -/
theorem receiving_ten :
    receiving m ρ c K 10 ⊢ iprop(owesAny c 0 ∗ (bigSep Finset.univ fun k => ownsTc c (oS k) fullShare (tot m ρ c k))
      ∗ bigSep Finset.univ (landed m ρ c) ∗ bigSep Finset.univ fun k => semVal (recvCell c k) 0) := by
  unfold receiving summed
  rw [turned_ten, bigSep_sep', bigSep_sep']
  iintro ⟨-, H⟩; iexact H

/-- No own transfer waited for yet; -/
theorem draining_zero :
    iprop(records m ρ K ∗ owesAny c 0 ∗ (bigSep Finset.univ fun k => cred (tallyAt (sendCell c k) () (credit k)))
      ∗ bigSep Finset.univ fun k => atPos ER (sendCell c k) 0 ∅ 0) ⊢ draining m ρ c K 0 := by
  unfold draining inFlight
  rw [turned_zero, bigSep_sep']

/-- all seen complete: the send bands are back. -/
theorem draining_ten :
    draining m ρ c K 10 ⊢ iprop(owesAny c 0 ∗ bigSep Finset.univ (anyS c) ∗ bigSep Finset.univ fun k => semVal (sendCell c k) 0) := by
  unfold draining drained
  rw [turned_ten, bigSep_sep']
  iintro ⟨-, H⟩; iexact H

end Phases

/-! ## Buffers and their bands -/

/-- A buffer held at some contents, cut into disjoint rectangles that cover it; -/
theorem cut_any (c : Dev nD) {B : Ref sig .tc} {T : Type} [Fintype T] [DecidableEq T] (r : T → Rect B.ty.shape)
    (hr : ∀ t a, (r t).stride a = 1) (hd : ∀ t t', t ≠ t' → Disjoint (r t).set (r t').set)
    (hcov : (Finset.univ : Finset T).biUnion (fun t => (r t).set) = Finset.univ) :
    iprop(∃ f, ((c : Thread nD τ).loc B) ↦{fullShare} f : sProp 𝕄)
      ⊢ bigSep Finset.univ fun t => iprop(∃ X, ownsTc c ((Memref.whole B).slice (r t) (hr t)) fullShare X) := by
  iintro ⟨%f, H⟩
  ihave H := (Entails.of_eq (owns_whole (c : Thread nD τ) B fullShare f).symm) $$ H
  ihave H := (owns_rects (c : Thread nD τ) (Memref.whole B) fullShare r hr hd hcov f) $$ H
  have h (t : T) : ownsTc c ((Memref.whole B).slice (r t) (hr t)) fullShare (fun j => f ((r t).emb j))
      ⊢ iprop(∃ X, ownsTc c ((Memref.whole B).slice (r t) (hr t)) fullShare X : sProp 𝕄) := by iintro H; iexists _; iexact H
  iapply (show (bigSep Finset.univ fun t => ownsTc c ((Memref.whole B).slice (r t) (hr t)) fullShare (fun j => f ((r t).emb j)) : sProp 𝕄)
    ⊢ bigSep Finset.univ fun t => iprop(∃ X, ownsTc c ((Memref.whole B).slice (r t) (hr t)) fullShare X) from bigSep_mono fun t _ => h t)
  iexact H

/-- and put together again. -/
theorem join_any (c : Dev nD) {B : Ref sig .tc} {T : Type} [Fintype T] [DecidableEq T] (r : T → Rect B.ty.shape)
    (hr : ∀ t a, (r t).stride a = 1) (hd : ∀ t t', t ≠ t' → Disjoint (r t).set (r t').set)
    (hcov : (Finset.univ : Finset T).biUnion (fun t => (r t).set) = Finset.univ) :
    (bigSep Finset.univ fun t => iprop(∃ X, ownsTc c ((Memref.whole B).slice (r t) (hr t)) fullShare X))
      ⊢ iprop(∃ f, ((c : Thread nD τ).loc B) ↦{fullShare} f : sProp 𝕄) := by
  iintro H
  ihave H := (BI.bigSep_exists_pi Finset.univ fun t (X : (r t).shape.Idx → Elt F B.ty.elt) =>
    (ownsTc c ((Memref.whole B).slice (r t) (hr t)) fullShare X : sProp 𝕄)) $$ H
  icases H with ⟨%Z, H⟩
  iexists (Rect.glue r hcov Z : B.ty.Contents (Elt F))
  rw [← owns_whole (c : Thread nD τ) B fullShare]
  iapply (owns_of_rects (c : Thread nD τ) (Memref.whole B) fullShare r hr hd hcov (Rect.glue r hcov Z))
  iapply (Entails.of_eq (bigSep_congr fun t _ => by
    rw [show (fun j => Rect.glue r hcov Z ((r t).emb j)) = Z t from funext fun j => Rect.glue_emb r hcov hd Z t j]))
  iexact H

/-- The ten bands of a kind are the two bf16 ones and the eight 8-bit ones. -/
theorem bigSep_pick (H : Fin 2 → sProp 𝕄) (E : Fin 8 → sProp 𝕄) :
    bigSep Finset.univ (pick H E) = iprop(bigSep Finset.univ H ∗ bigSep Finset.univ E) := by
  rw [bigSep_univ_eq_bigSepL [0, 1, 2, 3, 4, 5, 6, 7, 8, 9] (by decide) (by decide), bigSep_univ_eq_bigSepL [0, 1] (by decide) (by decide) H,
    bigSep_univ_eq_bigSepL [0, 1, 2, 3, 4, 5, 6, 7] (by decide) (by decide) E]
  simp only [bigSepL_cons_cons, bigSepL_singleton]
  exact BI.equiv_iff.mp ⟨(sep_assoc (PROP := sProp 𝕄)).2, (sep_assoc (PROP := sProp 𝕄)).1⟩

/-- What entails per kind entails per band. -/
theorem pick_mono {H H' : Fin 2 → sProp 𝕄} {E E' : Fin 8 → sProp 𝕄} (hH : ∀ i, H i ⊢ H' i) (hE : ∀ i, E i ⊢ E' i) (k : Fin 10) :
    pick H E k ⊢ pick H' E' k := by
  fin_cases k <;> first | exact hH _ | exact hE _

/-- A device's send buffers are its send bands; -/
theorem cut_send (c : Dev nD) :
    iprop((∃ f, ((c : Thread nD τ).loc cc0_scratch0) ↦{fullShare} f) ∗ (∃ f, ((c : Thread nD τ).loc cc0_scratch2) ↦{fullShare} f) : sProp 𝕄)
      ⊢ bigSep Finset.univ (anyS (F := F) c) := by
  unfold anyS; rw [bigSep_pick]
  exact BI.sep_mono (cut_any c (B := cc0_scratch0) hR hR_stride hR_disj hR_cover) (cut_any c (B := cc0_scratch2) eR eR_stride eR_disj eR_cover)
theorem join_send (c : Dev nD) :
    bigSep Finset.univ (anyS (F := F) c)
      ⊢ iprop((∃ f, ((c : Thread nD τ).loc cc0_scratch0) ↦{fullShare} f) ∗ (∃ f, ((c : Thread nD τ).loc cc0_scratch2) ↦{fullShare} f) : sProp 𝕄) := by
  unfold anyS; rw [bigSep_pick]
  exact BI.sep_mono (join_any c (B := cc0_scratch0) hR hR_stride hR_disj hR_cover) (join_any c (B := cc0_scratch2) eR eR_stride eR_disj eR_cover)

/-- its landing buffers its landing bands, -/
theorem cut_land (c : Dev nD) :
    iprop((∃ f, ((c : Thread nD τ).loc cc0_scratch1) ↦{fullShare} f) ∗ (∃ f, ((c : Thread nD τ).loc cc0_scratch3) ↦{fullShare} f) : sProp 𝕄)
      ⊢ bigSep Finset.univ (anyR (F := F) c) := by
  unfold anyR; rw [bigSep_pick]
  exact BI.sep_mono (cut_any c (B := cc0_scratch1) hR hR_stride hR_disj hR_cover) (cut_any c (B := cc0_scratch3) eR eR_stride eR_disj eR_cover)
theorem join_land (c : Dev nD) :
    bigSep Finset.univ (anyR (F := F) c)
      ⊢ iprop((∃ f, ((c : Thread nD τ).loc cc0_scratch1) ↦{fullShare} f) ∗ (∃ f, ((c : Thread nD τ).loc cc0_scratch3) ↦{fullShare} f) : sProp 𝕄) := by
  unfold anyR; rw [bigSep_pick]
  exact BI.sep_mono (join_any c (B := cc0_scratch1) hR hR_stride hR_disj hR_cover) (join_any c (B := cc0_scratch3) eR eR_stride eR_disj eR_cover)

/-- whatever landed there. -/
theorem landed_any (c : Dev nD) (k : Fin 10) : landed m ρ c k ⊢ anyR c k := by
  unfold landed anyR
  exact pick_mono (fun i => by iintro H; iexists _; iexact H) (fun i => by iintro H; iexists _; iexact H) k

/-- The result's staging buffer is its bands, -/
theorem cut_out (c : Dev nD) :
    iprop(∃ f, ((c : Thread nD τ).loc cc0_stg2_0) ↦{fullShare} f : sProp 𝕄) ⊢ bigSep Finset.univ (anyO (F := F) c) :=
  cut_any c (B := cc0_stg2_0) oR oR_stride oR_disj oR_cover

/-- and its ten summed bands are the result. -/
theorem join_out (c : Dev nD) :
    (bigSep Finset.univ fun k => ownsTc c (oS k) fullShare (tot m ρ c k)) ⊢ (((c : Thread nD τ).loc cc0_stg2_0) ↦{fullShare} outAt m ρ c : sProp 𝕄) := by
  rw [← owns_whole (c : Thread nD τ) cc0_stg2_0 fullShare]
  refine BIBase.Entails.trans (Entails.of_eq (bigSep_congr fun k _ => ?_)) (owns_of_rects (c : Thread nD τ) oM fullShare oR oR_stride oR_disj oR_cover (outAt m ρ c))
  rw [outAt_band]

end Cert.PartnerSum

end
-- ==== Proof.Barrier.lean ====
/-
The handshake at the start of a device's body, around its first band.

The device signals its partner's barrier and so lends it its ten landing bands; it computes band 0; it waits on its
own barrier and holds its partner's landing bands; it sends band 0. From there on it is in the phase SENDING.
-/
module

public import proofs.«01_k».proof.Proof.Phases

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD) (K : Dev nD × Slot → ℕ)
variable {α : Type} {Q : α → sProp (MT nD τ sig Unit (Elt F) ℕ UU ℕ)}

/-! ## Signal and wait -/

/-- The landing bands device `c` lends are those its partner borrows. -/
theorem lent_peer : lent (F := F) (peer c) = bigSep Finset.univ (anyR (F := F) c) := by
  unfold lent; rw [peer_peer]

/-- SIGNAL the partner's barrier: the landing bands are lent, the debt is the ten transfers. -/
theorem signal_partner {n : Dev nD} (hn : n = peer c) {k' : ℕ} (hk : 1 = k') {kt : PUnit → Prog (TpuEff nD τ sig (Elt F) Λ₀ .tc) α} :
    iprop(records m ρ K ∗ owesAny c (owed₀ c) ∗ dutyTok ER (barCell (peer c)) 0 () ∗ bigSep Finset.univ (anyR c))
      ⊢ iprop((owesAny c (oweFrom c 0) -∗ run c (kt ⟨⟩) Q)
          -∗ run c (.op (.semSignal (n, .tc) barS k') kt) Q) := by
  subst hn hk
  unfold owesAny
  iintro ⟨#HR, ⟨%W, HO⟩, Ht, Hl⟩ Hk
  ihave #HI := (records_inv m ρ K (peer c) barJ) $$ HR
  ihave #Hr := (records_reached m ρ K (peer c) barJ) $$ HR
  iapply (Rounds.wp_signal 𝒱₀ ER (sched m ρ) (c : Thread nD τ) none (dst := (peer c : Thread nD τ)) (sem := barS) (κ := K (peer c, barJ))
      (d := ()) (mem_duties m ρ (barCell (peer c))) (amount_bar m ρ (peer c)) () (oweFrom c 0) rfl) $$ [HO Ht Hl]
  · isplitr; · iexact HI
    isplitl [HO]; · iexact HO
    isplitl [Ht]; · iexact Ht
    isplitl [Hl]
    · iapply (Entails.of_eq (show bigSep Finset.univ (anyR (F := F) c) = (sched m ρ).payload (barCell (peer c)) 0 () from
        ((payload_bar m ρ (peer c)).trans (lent_peer c)).symm))
      iexact Hl
    iexact Hr
  iintro HO
  iapply Hk
  iexists W; iexact HO

/-- WAIT at the own barrier under the ten transfers' debt: the partner's landing bands, and the barrier at zero
    again. -/
theorem wait_partner {k' : ℕ} (hk : 1 = k') {kt : PUnit → Prog (TpuEff nD τ sig (Elt F) Λ₀ .tc) α} :
    iprop(records m ρ K ∗ levAts L lv ∗ owesAny c (oweFrom c 0) ∗ cred (tallyAt (barCell c) () 1) ∗ atPos ER (barCell c) 0 ∅ 0)
      ⊢ iprop(((owesAny c (oweFrom c 0) ∗ semVal (barCell c) 0 ∗ lent c) -∗ run c (kt ⟨⟩) Q)
          -∗ run c (.op (.semWait barS k') kt) Q) := by
  subst hk
  unfold owesAny
  iintro ⟨#HR, #Hlev, ⟨%W, HO⟩, Hc, Hat⟩ Hk
  ihave #HI := (records_inv m ρ K c barJ) $$ HR
  iapply (Rounds.wp_wait_rest_token 𝒱₀ ER (sched m ρ) (c : Thread nD τ) none (κ := K (c, barJ)) (sm := .reg barS)
      (wpE_semWait_eq 𝒱₀ (c : Thread nD τ) none Set.univ) (Set.mem_univ _) () (O := oweFrom c 0) (W := W) (R := 0) (m := 0) (T := ∅)
      (by rw [Nat.zero_add]; exact ((expect_eq m ρ (barCell c)).trans (amount_bar m ρ c)).symm)) $$ [HO Hc Hat]
  · isplitr; · iexact HI
    isplitl [Hc]; · iexact Hc
    isplitl [HO]; · iexact HO
    isplitr; · iapply (mayWait_bar c); iexact Hlev
    iexact Hat
  iintro ⟨HO, Hat, -, Hpay⟩
  ihave Hpay := (Entails.of_eq ((rest_eq m ρ (barCell c)).trans (payload_bar m ρ c))) $$ Hpay
  imod (Rounds.cell_close ER (sched m ρ) (Set.mem_univ (K (c, barJ))) (fun h => h) (R := 0 + 1) (duties_later m ρ (barCell c))) $$ [Hat] with Hz
  · isplitr; · iexact HI
    iexact Hat
  iapply Hk
  isplitl [HO]; · iexists _; iexact HO
  isplitl [Hz] <;> iassumption

/-! ## The first band around the wait -/

/-- A band before the partner has lent its landing band: unsent, -/
def unlent (k : Fin 10) : sProp 𝕄 :=
  iprop(anyO c k ∗ anyS c k ∗ dutyTok ER (sendCell c k) 0 () ∗ dutyTok ER (recvCell (peer c) k) 0 ())
/-- or computed and ready to be sent. -/
def ready (k : Fin 10) : sProp 𝕄 :=
  iprop(ownsTc c (oS k) fullShare (own m ρ c k) ∗ filled m ρ c k ∗ dutyTok ER (sendCell c k) 0 () ∗ dutyTok ER (recvCell (peer c) k) 0 ())

/-- No band sent yet. -/
theorem unlent_all :
    iprop(bigSep Finset.univ (anyO c) ∗ bigSep Finset.univ (anyS c) ∗ (bigSep Finset.univ fun k : Fin 10 => dutyTok ER (sendCell c k) 0 ())
      ∗ bigSep Finset.univ fun k : Fin 10 => dutyTok ER (recvCell (peer c) k) 0 ()) ⊢ bigSep Finset.univ (unlent (F := F) c) := by
  unfold unlent
  rw [bigSep_sep', bigSep_sep', bigSep_sep']

/-- Band 0's turn, the wait for the partner's landing bands in its middle: from there on the device is SENDING. -/
theorem first_band {s : Shape} {e : EltTy} {b d : Memref sig .tc .vmem s e} {r : Rect s} {hr : ∀ a, r.stride a = 1}
    {X : Dev nD → r.shape.Idx → Elt F e} (hc : Carries m ρ 0 (b.slice r hr) (d.slice r hr) X)
    {payO : ((aR 0).shape.Idx → Elt F .f32) → (bR.shape.Idx → Elt F .f32) → (oR 0).shape.Idx → Elt F .f32}
    {payS : ((aR 0).shape.Idx → Elt F .f32) → (bR.shape.Idx → Elt F .f32) → r.shape.Idx → Elt F e}
    (hO : payO (aRd m ρ c 0) (bRd m ρ c) = own m ρ c 0) (hS : payS (aRd m ρ c 0) (bRd m ρ c) = X c)
    {n : Dev nD} (hn : n = peer c) {qS qR : DmaSem sig} (hqS : qS = sendS 0) (hqR : qR = recvS 0) {k' : ℕ} (hk : 1 = k')
    {h1 h2 h3 h4 h5 h6 h7 h8 hsc hsrc hdst hsem} {kt : PUnit → Prog (TpuEff nD τ sig (Elt F) Λ₀ .tc) α} :
    iprop(records m ρ K ∗ levAts L lv ∗ operands m ρ c ∗ owesAny c (oweFrom c 0) ∗ cred (tallyAt (barCell c) () 1) ∗ atPos ER (barCell c) 0 ∅ 0
        ∗ bigSep Finset.univ (unlent c))
      ⊢ iprop(((sending m ρ c K 1 ∗ semVal (barCell c) 0) -∗ run c (kt ⟨⟩) Q)
        -∗ run c (.op (.load aM (aR 0).toLoadRect h1) fun x => .op (.load bM bR.toLoadRect h2) fun y =>
            .op (.load oM (oR 0).toLoadRect h3) fun _ => .op (.store oM (oR 0) (payO x y) Finset.univ h4 h5) fun _ =>
            .op (.load b r.toLoadRect h6) fun _ => .op (.store b r (payS x y) Finset.univ h7 h8) fun _ =>
            .op (.semWait barS k') fun _ =>
            .op (.enqueueDma (b.slice r hr) (.remote (Dev.tc n : Thread nD τ) (d.slice r hr) (.dma qS) hsc) (.dma qR) hsrc hdst hsem) kt) Q) := by
  iintro ⟨#HR, #Hlev, Hop, HO, Hc, Hat, HB⟩ Hk
  ihave HB := (Entails.of_eq (congrArg (bigSep Finset.univ) (turned_zero (ready m ρ c) (unlent c)).symm)) $$ HB
  ihave HB := (turn (ready m ρ c) (unlent c) (n := 0) 0 rfl) $$ HB
  icases HB with ⟨Hu, Hback⟩
  unfold unlent
  icases Hu with ⟨Ho, Hs, HtS, HtR⟩
  iapply (compute_band m ρ c 0 hc hO hS) $$ [Hop Ho Hs]
  · isplitl [Hop]; · iexact Hop
    isplitl [Ho] <;> iassumption
  iintro ⟨Hop, Ho, Hs⟩
  iapply (wait_partner m ρ c K hk) $$ [HO Hc Hat]
  · isplitr; · iexact HR
    isplitr; · iexact Hlev
    isplitl [HO]; · iexact HO
    isplitl [Hc] <;> iassumption
  iintro ⟨HO, Hz, Hlent⟩
  ihave HB := Hback $$ [Ho Hs HtS HtR]
  · unfold ready
    isplitl [Ho]; · iexact Ho
    isplitl [Hs]; · iexact Hs
    isplitl [HtS] <;> iassumption
  -- band by band, the partner's landing band beside the own band
  ihave HB := (show iprop(bigSep Finset.univ (turned (0 + 1) (ready m ρ c) (unlent c)) ∗ bigSep Finset.univ (fun k => anyR (F := F) (peer c) k))
      ⊢ bigSep Finset.univ (turned 0 (sent m ρ c) fun k => iprop(turned (0 + 1) (ready m ρ c) (unlent c) k ∗ anyR (peer c) k)) from
    Entails.of_eq (by rw [turned_zero, bigSep_sep'])) $$ [HB Hlent]
  · isplitl [HB]; · iexact HB
    unfold lent; iexact Hlent
  ihave HB := (turn (sent m ρ c) (fun k => iprop(turned (0 + 1) (ready m ρ c) (unlent c) k ∗ anyR (peer c) k)) (n := 0) 0 rfl) $$ HB
  icases HB with ⟨⟨Hd, Hr⟩, Hback⟩
  ihave Hd := (Entails.of_eq (show turned (0 + 1) (ready m ρ c) (unlent c) 0 = ready m ρ c 0 from rfl)) $$ Hd
  unfold ready
  icases Hd with ⟨Ho, Hs, HtS, HtR⟩
  iapply (send_band m ρ c 0 K hc hn hqS hqR) $$ [HO Hs Hr HtS HtR]
  · isplitr; · iexact HR
    isplitl [Hs]; · iexact Hs
    isplitl [Hr]; · iexact Hr
    isplitl [HO]; · iexact HO
    isplitl [HtS] <;> iassumption
  iintro ⟨Hc, HO⟩
  iapply Hk
  isplitr [Hz]
  · unfold sending
    isplitr; · iexact HR
    isplitl [Hop]; · iexact Hop
    isplitl [HO]; · iexact HO
    ihave HB := Hback $$ [Ho Hc]
    · unfold sent
      isplitl [Ho] <;> iassumption
    have hj (k : Fin 10) : turned (0 + 1) (sent m ρ c) (fun k => iprop(turned (0 + 1) (ready m ρ c) (unlent c) k ∗ anyR (peer c) k)) k
        ⊢ turned (0 + 1) (sent m ρ c) (fresh c) k := by
      unfold turned
      by_cases h : k.val < 0 + 1
      · rw [if_pos h, if_pos h]
      · rw [if_neg h, if_neg h]; dsimp only; rw [if_neg h]
        unfold unlent fresh
        iintro ⟨⟨H1, H2, H3, H4⟩, H5⟩
        isplitl [H1]; · iexact H1
        isplitl [H2]; · iexact H2
        isplitl [H5]; · iexact H5
        isplitl [H3] <;> iassumption
    iapply (show bigSep Finset.univ (turned (0 + 1) (sent m ρ c) (fun k => iprop(turned (0 + 1) (ready m ρ c) (unlent c) k ∗ anyR (peer c) k)))
      ⊢ bigSep Finset.univ (turned (0 + 1) (sent m ρ c) (fresh c)) from bigSep_mono fun k _ => hj k)
    iexact HB
  · iexact Hz

end Cert.PartnerSum

end
-- ==== Proof.Body.lean ====
/-
A device's body, run once at a symbolic device: from what the launch gives the device to its result.
-/
module

public import proofs.«01_k».proof.Proof.Barrier

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch gives a device, and what the body leaves -/

variable (c : Dev nD) (K : Dev nD × Slot → ℕ)

/-- The tokens of the duties device `c` pays — its signal, and its transfers at both ends — and its positions at its own
    cells. -/
def tokens : sProp 𝕄 :=
  iprop(dutyTok ER (barCell (peer c)) 0 () ∗ atPos ER (barCell c) 0 ∅ 0
    ∗ (bigSep Finset.univ fun k : Fin 10 => dutyTok ER (sendCell c k) 0 ())
    ∗ (bigSep Finset.univ fun k : Fin 10 => dutyTok ER (recvCell (peer c) k) 0 ())
    ∗ (bigSep Finset.univ fun k : Fin 10 => atPos ER (sendCell c k) 0 ∅ 0)
    ∗ (bigSep Finset.univ fun k : Fin 10 => atPos ER (recvCell c k) 0 ∅ 0))

/-- The credits it may wait for: its partner's signal and its partner's ten transfers. -/
def credits : sProp 𝕄 :=
  iprop(cred (tallyAt (barCell c) () 1) ∗ bigSep Finset.univ fun k : Fin 10 => cred (tallyAt (recvCell c k) () (credit k)))

/-- The four transfer buffers, holding anything. -/
def buffers : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f) ∗ (∃ f, ((c : Thread nD τ).loc cc0_scratch3) ↦{fullShare} f))

/-- Its semaphores at zero. -/
def closed : sProp 𝕄 :=
  iprop(semVal (barCell c) 0 ∗ (bigSep Finset.univ fun k : Fin 10 => semVal (sendCell c k) 0)
    ∗ (bigSep Finset.univ fun k : Fin 10 => semVal (recvCell c k) 0))

/-! ## The body -/

set_option maxHeartbeats 4000000 in
/-- The body at device `c`: signal, the first band around the wait, nine more bands, ten bands received and added in,
    ten transfers seen complete. It leaves the sum of both devices' products in the result's buffer, its semaphores at
    zero and no debt. -/
theorem sound_body (Kt : PUnit → sProp 𝕄) :
    iprop((records m ρ K ∗ levAts L lv ∗ tokens c ∗ credits c ∗ buffers c ∗ operands m ρ c ∗ owesAny c (owed₀ c)
          ∗ ∃ f, ((c : Thread nD τ).loc cc0_stg2_0) ↦{fullShare} f)
        ∗ ((closed c ∗ buffers c ∗ operands m ρ c ∗ owesAny c 0 ∗ (((c : Thread nD τ).loc cc0_stg2_0) ↦{fullShare} outAt m ρ c)) -∗ Kt ⟨⟩))
      ⊢ run c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5) Kt := by
  simp only [cc0_body_eq_skeleton]
  unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton, k0_part10_eq_skeleton,
    k0_part11_eq_skeleton, k0_part12_eq_skeleton, k0_part13_eq_skeleton, k0_part14_eq_skeleton]
  unfold k0_part1_skel k0_part2_skel k0_part3_skel k0_part4_skel k0_part5_skel k0_part6_skel k0_part7_skel k0_part8_skel
    k0_part9_skel k0_part10_skel k0_part11_skel k0_part12_skel k0_part13_skel k0_part14_skel
  simp only [semSignalWord, semWaitWord, Prog.lift, Prog.bind_op, Prog.bind_ret, Prog.pure_eq_ret, wp_deviceId]
  unfold tokens credits buffers
  iintro ⟨⟨#HR, #Hlev, ⟨HtB, HatB, HtS, HtR, HatS, HatR⟩, ⟨HcB, HcR⟩, ⟨Hb0, Hb1, Hb2, Hb3⟩, Hop, HO, Hout⟩, Hk⟩
  -- the buffers in bands
  ihave HS := (cut_send c) $$ [Hb0 Hb2]
  · isplitl [Hb0] <;> iassumption
  ihave HL := (cut_land c) $$ [Hb1 Hb3]
  · isplitl [Hb1] <;> iassumption
  ihave HOut := (cut_out c) $$ Hout
  -- the handshake and the first band
  iapply (signal_partner m ρ c K (Fin.ext ((k0_dev1_eq c).trans (id_peer c))) (by decide)) $$ [HO HtB HL]
  · isplitr; · iexact HR
    isplitl [HO]; · iexact HO
    isplitl [HtB] <;> iassumption
  iintro HO
  iapply (first_band m ρ c K (carries_h m ρ 0) rfl rfl (Fin.ext ((k0_dev2_eq c).trans (id_peer c))) rfl rfl (by decide)) $$ [Hop HO HcB HatB HtS HtR HS HOut]
  · isplitr; · iexact HR
    isplitr; · iexact Hlev
    isplitl [Hop]; · iexact Hop
    isplitl [HO]; · iexact HO
    isplitl [HcB]; · iexact HcB
    isplitl [HatB]; · iexact HatB
    iapply (unlent_all c)
    isplitl [HOut]; · iexact HOut
    isplitl [HS]; · iexact HS
    isplitl [HtS] <;> iassumption
  iintro ⟨HP, HzB⟩
  -- the other nine bands
  iapply (sending_step m ρ c K _ (N := 1) (N' := 2) rfl rfl (carries_h m ρ 1) rfl rfl (Fin.ext ((k0_dev3_eq c).trans (id_peer c))) rfl rfl) $$ HP; iintro HP
  iapply (sending_step m ρ c K _ (N := 2) (N' := 3) rfl rfl (carries_e m ρ 0) rfl rfl (Fin.ext ((k0_dev4_eq c).trans (id_peer c))) rfl rfl) $$ HP; iintro HP
  iapply (sending_step m ρ c K _ (N := 3) (N' := 4) rfl rfl (carries_e m ρ 1) rfl rfl (Fin.ext ((k0_dev5_eq c).trans (id_peer c))) rfl rfl) $$ HP; iintro HP
  iapply (sending_step m ρ c K _ (N := 4) (N' := 5) rfl rfl (carries_e m ρ 2) rfl rfl (Fin.ext ((k0_dev6_eq c).trans (id_peer c))) rfl rfl) $$ HP; iintro HP
  iapply (sending_step m ρ c K _ (N := 5) (N' := 6) rfl rfl (carries_e m ρ 3) rfl rfl (Fin.ext ((k0_dev7_eq c).trans (id_peer c))) rfl rfl) $$ HP; iintro HP
  iapply (sending_step m ρ c K _ (N := 6) (N' := 7) rfl rfl (carries_e m ρ 4) rfl rfl (Fin.ext ((k0_dev8_eq c).trans (id_peer c))) rfl rfl) $$ HP; iintro HP
  iapply (sending_step m ρ c K _ (N := 7) (N' := 8) rfl rfl (carries_e m ρ 5) rfl rfl (Fin.ext ((k0_dev9_eq c).trans (id_peer c))) rfl rfl) $$ HP; iintro HP
  iapply (sending_step m ρ c K _ (N := 8) (N' := 9) rfl rfl (carries_e m ρ 6) rfl rfl (Fin.ext ((k0_dev10_eq c).trans (id_peer c))) rfl rfl) $$ HP; iintro HP
  iapply (sending_step m ρ c K _ (N := 9) (N' := 10) rfl rfl (carries_e m ρ 7) rfl rfl (Fin.ext ((k0_dev11_eq c).trans (id_peer c))) rfl rfl) $$ HP; iintro HP
  ihave HP := (sending_ten m ρ c K) $$ HP
  icases HP with ⟨Hop, HO, HOut, HcS⟩
  -- the partner's ten bands, added in
  ihave HP := (receiving_zero m ρ c K) $$ [HO HOut HcR HatR]
  · isplitr; · iexact HR
    isplitl [HO]; · iexact HO
    isplitl [HOut]; · iexact HOut
    isplitl [HcR] <;> iassumption
  iapply (receiving_step m ρ c K _ (N := 0) (N' := 1) rfl rfl (carries_h m ρ 0) rfl rfl) $$ HP; iintro HP
  iapply (receiving_step m ρ c K _ (N := 1) (N' := 2) rfl rfl (carries_h m ρ 1) rfl rfl) $$ HP; iintro HP
  iapply (receiving_step m ρ c K _ (N := 2) (N' := 3) rfl rfl (carries_e m ρ 0) rfl rfl) $$ HP; iintro HP
  iapply (receiving_step m ρ c K _ (N := 3) (N' := 4) rfl rfl (carries_e m ρ 1) rfl rfl) $$ HP; iintro HP
  iapply (receiving_step m ρ c K _ (N := 4) (N' := 5) rfl rfl (carries_e m ρ 2) rfl rfl) $$ HP; iintro HP
  iapply (receiving_step m ρ c K _ (N := 5) (N' := 6) rfl rfl (carries_e m ρ 3) rfl rfl) $$ HP; iintro HP
  iapply (receiving_step m ρ c K _ (N := 6) (N' := 7) rfl rfl (carries_e m ρ 4) rfl rfl) $$ HP; iintro HP
  iapply (receiving_step m ρ c K _ (N := 7) (N' := 8) rfl rfl (carries_e m ρ 5) rfl rfl) $$ HP; iintro HP
  iapply (receiving_step m ρ c K _ (N := 8) (N' := 9) rfl rfl (carries_e m ρ 6) rfl rfl) $$ HP; iintro HP
  iapply (receiving_step m ρ c K _ (N := 9) (N' := 10) rfl rfl (carries_e m ρ 7) rfl rfl) $$ HP; iintro HP
  ihave HP := (receiving_ten m ρ c K) $$ HP
  icases HP with ⟨HO, HOut, HL, HzR⟩
  -- the ten own transfers, seen complete
  ihave HP := (draining_zero m ρ c K) $$ [HO HcS HatS]
  · isplitr; · iexact HR
    isplitl [HO]; · iexact HO
    isplitl [HcS] <;> iassumption
  iapply (draining_step m ρ c K _ (N := 0) (N' := 1) rfl rfl (carries_h m ρ 0) rfl) $$ HP; iintro HP
  iapply (draining_step m ρ c K _ (N := 1) (N' := 2) rfl rfl (carries_h m ρ 1) rfl) $$ HP; iintro HP
  iapply (draining_step m ρ c K _ (N := 2) (N' := 3) rfl rfl (carries_e m ρ 0) rfl) $$ HP; iintro HP
  iapply (draining_step m ρ c K _ (N := 3) (N' := 4) rfl rfl (carries_e m ρ 1) rfl) $$ HP; iintro HP
  iapply (draining_step m ρ c K _ (N := 4) (N' := 5) rfl rfl (carries_e m ρ 2) rfl) $$ HP; iintro HP
  iapply (draining_step m ρ c K _ (N := 5) (N' := 6) rfl rfl (carries_e m ρ 3) rfl) $$ HP; iintro HP
  iapply (draining_step m ρ c K _ (N := 6) (N' := 7) rfl rfl (carries_e m ρ 4) rfl) $$ HP; iintro HP
  iapply (draining_step m ρ c K _ (N := 7) (N' := 8) rfl rfl (carries_e m ρ 5) rfl) $$ HP; iintro HP
  iapply (draining_step m ρ c K _ (N := 8) (N' := 9) rfl rfl (carries_e m ρ 6) rfl) $$ HP; iintro HP
  iapply (draining_step m ρ c K _ (N := 9) (N' := 10) rfl rfl (carries_e m ρ 7) rfl) $$ HP; iintro HP
  ihave HP := (draining_ten m ρ c K) $$ HP
  icases HP with ⟨HO, HS, HzS⟩
  -- the buffers whole again
  ihave Hout := (join_out m ρ c) $$ HOut
  ihave HS := (join_send c) $$ HS
  icases HS with ⟨Hb0, Hb2⟩
  ihave HL := (show bigSep Finset.univ (landed m ρ c) ⊢ bigSep Finset.univ (anyR (F := F) c) from bigSep_mono fun k _ => landed_any m ρ c k) $$ HL
  ihave HL := (join_land c) $$ HL
  icases HL with ⟨Hb1, Hb3⟩
  unfold run; rw [wp_ret]; imodintro
  iapply Hk
  unfold closed
  isplitl [HzB HzS HzR]
  · isplitl [HzB]; · iexact HzB
    isplitl [HzS] <;> iassumption
  isplitl [Hb0 Hb1 Hb2 Hb3]
  · isplitl [Hb0]; · iexact Hb0
    isplitl [Hb1]; · iexact Hb1
    isplitl [Hb2] <;> iassumption
  isplitl [Hop]; · iexact Hop
  isplitl [HO] <;> iassumption

end Cert.PartnerSum

end
-- ==== Proof.Point.lean ====
/-
The pipeline's one point: what the pipeline hands the body and takes from it, and the obligation that the body meets.
-/
module

public import proofs.«01_k».proof.Proof.Body

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

/-- What the protocol's start gives a device: the records under some names, and its tokens. -/
def dealt (c : Dev nD) : sProp 𝕄 := iprop(∃ K, records m ρ K ∗ tokens c)

/-- What a device has of the protocol before its body. -/
def start (c : Dev nD) : sProp 𝕄 := iprop(dealt m ρ c ∗ credits c ∗ levAts L lv)

/-- Before the point: that, and the transfer buffers; -/
def Φ₀ (c : Dev nD) : sProp 𝕄 := iprop(start m ρ c ∗ buffers c)
/-- after it: the semaphores at zero, and the buffers. -/
def Φ₁ (c : Dev nD) : sProp 𝕄 := iprop(closed c ∗ buffers c)

/-- The pipeline's data on device `c`: both operands stay as staged, the result's staging buffer ends at `outAt`. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => aAt m ρ c
    | ⟨1, _⟩ => bAt m ρ c
    | ⟨2, _⟩ => outAt m ρ c
  Φ t := match t with
    | ⟨0, _⟩ => Φ₀ m ρ c
    | ⟨_ + 1, _⟩ => Φ₁ c
  q _ := fullShare
  owed t := match t with
    | ⟨0, _⟩ => owed₀ c
    | ⟨_ + 1, _⟩ => 0

/-! ## The obligation -/

/-- A staging buffer at given contents, as the pipeline spells it. -/
abbrev staged (c : Dev nD) (b : Ref sig .tc) (X : b.ty.Contents (Elt F)) : sProp 𝕄 :=
  owns (c : Thread nD τ) (Memref.whole b) fullShare X

/-- What the pipeline hands the body, -/
def handed (c : Dev nD) : sProp 𝕄 :=
  iprop(Φ₀ m ρ c ∗ (dats m ρ 0 c).owesAt () t0_0.castSucc
    ∗ (∃ d, staged c cc0_stg0_0 ((dats m ρ 0 c).before (0 : Fin 3) t0_0 d))
    ∗ (∃ d, staged c cc0_stg1_0 ((dats m ρ 0 c).before (1 : Fin 3) t0_0 d))
    ∗ (∃ d, staged c cc0_stg2_0 ((dats m ρ 0 c).before (2 : Fin 3) t0_0 d)))
/-- and what it takes back. -/
def taken (c : Dev nD) : sProp 𝕄 :=
  iprop(Φ₁ c ∗ (dats m ρ 0 c).owesAt () t0_0.succ
    ∗ staged c cc0_stg0_0 (aAt m ρ c) ∗ staged c cc0_stg1_0 (bAt m ρ c) ∗ staged c cc0_stg2_0 (outAt m ρ c))

theorem before_a (c : Dev nD) (d) : (dats m ρ 0 c).before (0 : Fin 3) t0_0 d = aAt m ρ c := by
  unfold Dat.before; rw [if_pos (fetch0_0 t0_0)]; rfl
theorem before_b (c : Dev nD) (d) : (dats m ρ 0 c).before (1 : Fin 3) t0_0 d = bAt m ρ c := by
  unfold Dat.before; rw [if_pos (fetch0_1 t0_0)]; rfl

/-- The body, from what it is handed to what is taken back. -/
theorem handed_taken (c : Dev nD) :
    handed m ρ c ⊢ run c (cc0_body (Memref.whole cc0_stg0_0) (Memref.isWhole_whole _) (Memref.whole cc0_stg1_0) (Memref.isWhole_whole _)
          (Memref.whole cc0_stg2_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) cc0_scratch4 cc0_scratch5) (fun _ => taken m ρ c) := by
  unfold handed Φ₀ start dealt Dat.owesAt Pipeline.owesWithin
  rw [show (dats m ρ 0 c).owed t0_0.castSucc = owed₀ c from rfl]
  iintro ⟨⟨⟨⟨%K, #HR, Ht⟩, Hc, #Hlev⟩, Hb⟩, ⟨%W, %hW, HO⟩, ⟨%d0, Ha⟩, ⟨%d1, Hbb⟩, ⟨%d2, Ho⟩⟩
  rw [before_a, before_b]
  iapply (sound_body m ρ c K fun _ => taken m ρ c)
  isplitl [Ht Hc Hb HO Ha Hbb Ho]
  · isplitr; · iexact HR
    isplitr; · iexact Hlev
    isplitl [Ht]; · iexact Ht
    isplitl [Hc]; · iexact Hc
    isplitl [Hb]; · iexact Hb
    isplitl [Ha Hbb]
    · unfold operands
      isplitl [Ha]
      · iapply (Entails.of_eq (owns_whole (c : Thread nD τ) cc0_stg0_0 fullShare _)); iexact Ha
      · iapply (Entails.of_eq (owns_whole (c : Thread nD τ) cc0_stg1_0 fullShare _)); iexact Hbb
    isplitl [HO]; · unfold owesAny; iexists W; iexact HO
    iexists _
    iapply (Entails.of_eq (owns_whole (c : Thread nD τ) cc0_stg2_0 fullShare _)); iexact Ho
  iintro ⟨Hz, Hb, Hop, HO, Ho⟩
  unfold taken Φ₁ Dat.owesAt Pipeline.owesWithin operands owesAny
  rw [show (dats m ρ 0 c).owed t0_0.succ = 0 from rfl]
  icases HO with ⟨%W', HO⟩
  icases Hop with ⟨Ha, Hbb⟩
  isplitl [Hz Hb]
  · isplitl [Hz] <;> iassumption
  isplitl [HO]
  · iexists W'
    isplitr; · ipureintro; exact fun _ _ => Or.inl trivial
    iexact HO
  isplitl [Ha]; · iapply (Entails.of_eq (owns_whole (c : Thread nD τ) cc0_stg0_0 fullShare _).symm); iexact Ha
  isplitl [Hbb]; · iapply (Entails.of_eq (owns_whole (c : Thread nD τ) cc0_stg1_0 fullShare _).symm); iexact Hbb
  iapply (Entails.of_eq (owns_whole (c : Thread nD τ) cc0_stg2_0 fullShare _).symm); iexact Ho

/-- The pipeline's obligation on device `c`. -/
theorem body_obligation (c : Dev nD) : BodyObligation (dats (F := F) m ρ 0 c) (defs₀ (F := F)) 𝒱₀ () Set.univ := fun t => by
  rw [fin_N0 t]
  rw [bigSep_W0, bigSep_W0]
  exact handed_taken m ρ c

end Cert.PartnerSum

end
-- ==== Proof.Launch.lean ====
/-
The launch: the cells' ghost state dealt to the devices, tokens passed to the partners that pay with them, and the run
of the whole program.
-/
module

public import proofs.«01_k».proof.Proof.Point
public import Idealize.ShloMosaic.Lib.Pipeline.CollectiveSegs

@[expose] public section

set_option maxRecDepth 16384

noncomputable section

namespace Cert.PartnerSum

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells -/

/-- A device's cells are its barrier, its ten send cells and its ten receive cells. -/
theorem bigSep_slot (Φ : Slot → sProp 𝕄) :
    bigSep Finset.univ Φ = iprop(Φ barJ ∗ (bigSep Finset.univ fun k => Φ (sendJ k)) ∗ bigSep Finset.univ fun k => Φ (recvJ k)) := by
  rw [bigSep_univ_sum, bigSep_univ_sum, show (Finset.univ : Finset Unit) = {()} from rfl, bigSep_singleton]; rfl

theorem ownSemFacts : Pipeline.OwnSemFacts cfg0.spec osem := by decide

theorem share_eq (c : Dev nD) (w : Fin cfg0.W) : (dats m ρ 0 c).share w = fullShare := by unfold Dat.share; split <;> rfl

theorem slotSem_injective : Function.Injective slotSem := by decide

abbrev cellP (cj : Dev nD × Slot) : GSem nD τ sig := cellAt cj.1 cj.2
theorem cellP_injective : Function.Injective cellP := by
  rintro ⟨c, j⟩ ⟨c', j'⟩ h
  have h1 : c = c' := congrArg (fun g : GSem nD τ sig => g.1.1) h
  have h2 : j = j' := slotSem_injective (congrArg Prod.snd h)
  rw [h1, h2]

/-- Every cell has one duty token, of round 0. -/
abbrev tokP (cj : Dev nD × Slot) : GSem nD τ sig × ℕ × Unit := (cellP cj, 0, ())
theorem tokP_injective : Function.Injective tokP := fun _ _ h => cellP_injective (congrArg Prod.fst h)

def allCells : Finset (GSem nD τ sig) := Finset.univ.map ⟨cellP, cellP_injective⟩
def allToks : Finset (GSem nD τ sig × ℕ × Unit) := Finset.univ.map ⟨tokP, tokP_injective⟩

def u₀ : UU :=
  (initOf (Pipeline.cells cfgs cellOf_inj) (Pipeline.launchToks cfgs cellOf_inj), initOf allCells allToks)

/-- The ghost state of device `c`'s own cells: their rounds, positions, round-0 marks and tokens. -/
def minted (c : Dev nD) : sProp 𝕄 :=
  iprop((bigSep Finset.univ fun j : Slot => roundState ER (sched m ρ) (cellAt c j) 0)
    ∗ (bigSep Finset.univ fun j : Slot => atPos ER (cellAt c j) 0 ∅ 0)
    ∗ (bigSep Finset.univ fun j : Slot => reached ER (cellAt c j) 0)
    ∗ bigSep Finset.univ fun j : Slot => dutyTok ER (cellAt c j) 0 ())

theorem fund_cells : BI.own (ER (initOf allCells allToks)) ⊢ (|==> bigSep Finset.univ (minted m ρ) : sProp 𝕄) := by
  have hX (Φ : GSem nD τ sig → sProp 𝕄) : bigSep allCells Φ = bigSep Finset.univ fun c : Dev nD => bigSep Finset.univ fun j : Slot => Φ (cellAt c j) := by
    unfold allCells; rw [bigSep_map, bigSep_univ_prod]; rfl
  have hT : bigSep allToks (fun x => (dutyTok ER x.1 x.2.1 x.2.2 : sProp 𝕄)) = bigSep Finset.univ fun c : Dev nD => bigSep Finset.univ fun j : Slot => dutyTok ER (cellAt c j) 0 () := by
    unfold allToks; rw [bigSep_map, bigSep_univ_prod]; rfl
  iintro HX
  imod (Rounds.fund ER (sched m ρ) allCells allToks) $$ HX with ⟨Hst, Hr, Hat, Htok⟩
  imodintro
  ihave Hst := (Entails.of_eq (hX fun g => roundState ER (sched m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold minted; simp only [bigSep_sep']
  isplitl [Hst]; · iexact Hst
  isplitl [Hat]; · iexact Hat
  isplitl [Hr] <;> iassumption

/-! ## The semaphores -/

theorem ownSems0_eq (c : Dev nD) : (Pipeline.ownSems0 (Ix := Unit) (Name := ℕ) (U := UU) (Lvl := ℕ) (Val := Elt F) (τ := τ) osem c : sProp 𝕄)
    = iprop((bigSep Finset.univ fun k : Fin 10 => semVal (sendCell c k) 0) ∗ bigSep Finset.univ fun k : Fin 10 => semVal (recvCell c k) 0) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's own semaphores and its barrier, at zero, are its cells' semaphores. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Slot => semVal (cellAt c j) 0 : sProp 𝕄) := by
  rw [ownSems0_eq, unscopedSems0_eq, bigSep_slot]
  iintro ⟨⟨HS, HR⟩, HB⟩
  isplitl [HB]; · iexact HB
  isplitl [HS]; · iexact HS
  iexact HR

/-! ## Dealing -/

/-- One device's cells opened: their invariants under some names. -/
theorem core_alloc (c : Dev nD) :
    iprop(Pipeline.ownSems0 (Ix := Unit) (Name := ℕ) (U := UU) (Lvl := ℕ) (Val := Elt F) (τ := τ) osem c ∗ unscopedSems0 c ∗ minted m ρ c)
      ⊢ |={Set.univ}=> iprop((bigSep Finset.univ fun j => iprop(∃ κ : ℕ, cellInv ER (sched m ρ) κ (cellAt c j)))
          ∗ (bigSep Finset.univ fun j : Slot => atPos ER (cellAt c j) 0 ∅ 0)
          ∗ (bigSep Finset.univ fun j : Slot => reached ER (cellAt c j) 0)
          ∗ bigSep Finset.univ fun j : Slot => dutyTok ER (cellAt c j) 0 ()) := by
  unfold minted
  iintro ⟨Hos, Hus, Hst, Hrest⟩
  ihave Hv := (sems0_eq (F := F) c) $$ [Hos Hus]
  · isplitl [Hos] <;> iassumption
  imod (show iprop((bigSep Finset.univ fun j : Slot => semVal (cellAt c j) 0) ∗ bigSep Finset.univ fun j : Slot => roundState ER (sched m ρ) (cellAt c j) 0)
      ⊢ (|={Set.univ}=> bigSep Finset.univ fun j => iprop(∃ κ : ℕ, cellInv ER (sched m ρ) κ (cellAt c j)) : sProp 𝕄) from by
        rw [← bigSep_sep']
        exact (bigSep_mono fun j _ => (Rounds.body_intro ER (sched m ρ) (cellAt c j)).trans inv_alloc).trans (bigSep_fupd _ _)) $$ [Hv Hst] with Hinv
  · isplitl [Hv] <;> iassumption
  imodintro
  isplitl [Hinv] <;> iassumption

/-- The tokens and positions of all devices' own cells, dealt so that each device holds the tokens it pays with: the
    tokens of barriers and receive cells go to the partner. -/
theorem deal :
    iprop((bigSep Finset.univ fun c : Dev nD => bigSep Finset.univ fun j : Slot => atPos ER (cellAt c j) 0 ∅ 0)
      ∗ bigSep Finset.univ fun c : Dev nD => bigSep Finset.univ fun j : Slot => dutyTok ER (cellAt c j) 0 () : sProp 𝕄)
      ⊢ bigSep Finset.univ fun c : Dev nD => tokens c := by
  unfold tokens
  simp only [bigSep_slot, bigSep_sep']
  rw [bigSep_univ_equiv pairing (fun c : Dev nD => (dutyTok ER (cellAt c barJ) 0 () : sProp 𝕄)),
    bigSep_univ_equiv pairing (fun c : Dev nD => (bigSep Finset.univ fun k : Fin 10 => dutyTok ER (cellAt c (recvJ k)) 0 () : sProp 𝕄))]
  iintro ⟨⟨HaB, HaS, HaR⟩, HtB, HtS, HtR⟩
  isplitl [HtB]; · iexact HtB
  isplitl [HaB]; · iexact HaB
  isplitl [HtS]; · iexact HtS
  isplitl [HtR]; · iexact HtR
  isplitl [HaS]; · iexact HaS
  iexact HaR

/-- What is persistent goes to every device. -/
theorem with_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

/-- The names of all invariants fixed once, every device gets the records and its tokens. -/
theorem regroup :
    (bigSep Finset.univ fun c : Dev nD => iprop((bigSep Finset.univ fun j => iprop(∃ κ : ℕ, cellInv ER (sched m ρ) κ (cellAt c j)))
          ∗ (bigSep Finset.univ fun j : Slot => atPos ER (cellAt c j) 0 ∅ 0)
          ∗ (bigSep Finset.univ fun j : Slot => reached ER (cellAt c j) 0)
          ∗ bigSep Finset.univ fun j : Slot => dutyTok ER (cellAt c j) 0 ()) : sProp 𝕄)
      ⊢ bigSep Finset.univ (dealt m ρ) := by
  rw [bigSep_sep', bigSep_sep', bigSep_sep', ← bigSep_univ_prod (fun cj : Dev nD × Slot => iprop(∃ κ : ℕ, cellInv ER (sched m ρ) κ (cellAt cj.1 cj.2))),
    ← bigSep_univ_prod (fun cj : Dev nD × Slot => (reached ER (cellAt cj.1 cj.2) 0 : sProp 𝕄))]
  iintro ⟨HI, Hat, #HR, Htok⟩
  ihave HK := (BI.bigSep_exists_pi Finset.univ (fun (cj : Dev nD × Slot) (κ : ℕ) => (cellInv ER (sched m ρ) κ (cellAt cj.1 cj.2) : sProp 𝕄))) $$ HI
  icases HK with ⟨%K, #HI⟩
  ihave Ht := (deal (F := F)) $$ [Hat Htok]
  · isplitl [Hat] <;> iassumption
  have h (c : Dev nD) : iprop(records m ρ K ∗ tokens c) ⊢ dealt m ρ c := by
    unfold dealt; iintro H; iexists K; iexact H
  iapply (with_all (R := records m ρ K) h)
  isplitr
  · unfold records; isplitl; · iexact HI
    iexact HR
  · iexact Ht

/-- The step taken for all devices at once. -/
theorem glob : (bigSep Finset.univ fun c => iprop(Pipeline.ownSems0 (Ix := Unit) (Name := ℕ) (U := UU) (Lvl := ℕ) (Val := Elt F) (τ := τ) osem c ∗ unscopedSems0 c ∗ minted m ρ c) : sProp 𝕄)
    ⊢ |={Set.univ}=> bigSep Finset.univ (dealt m ρ) :=
  ((bigSep_mono fun c _ => core_alloc m ρ c).trans (bigSep_fupd _ _)).trans (BI.fupd_mono (regroup m ρ))

/-! ## The credit at launch -/

theorem peer_eq_iff {d c : Dev nD} : peer d = c ↔ d = peer c :=
  ⟨fun h => by rw [← h, peer_peer], fun h => by rw [h, peer_peer]⟩

/-- Device `d` owes a unit to the barrier of `c`, and band `k`'s credit to its receive cell, exactly if they are partners. -/
theorem owed_bar (d c : Dev nD) : owed₀ d (barCell c) () = if d = peer c then 1 else 0 := by
  have h0 : oweFrom d 0 (barCell c) () = 0 := by
    by_contra hn
    obtain ⟨k, hk⟩ := oweFrom_at (Nat.pos_of_ne_zero hn)
    exact absurd (congrArg Prod.snd hk) (fun h => by cases h)
  unfold owed₀
  rw [Pi.add_apply, Finsupp.add_apply, h0, Nat.zero_add, tallyAt_apply]
  refine if_congr ⟨fun h => peer_eq_iff.mp (congrArg (fun g : GSem nD τ sig => g.1.1) h.1).symm, fun h => ?_⟩ rfl rfl
  rw [peer_eq_iff.mpr h]; exact ⟨rfl, rfl⟩

theorem recv_eq {a b : Dev nD} {j k : Fin 10} (h : recvCell a j = recvCell b k) : a = b ∧ j = k := by
  refine ⟨congrArg (fun g : GSem nD τ sig => g.1.1) h, ?_⟩
  have h2 : recvJ j = recvJ k := slotSem_injective (congrArg Prod.snd h)
  exact Sum.inr.inj (Sum.inr.inj h2)

theorem owed_recv (d c : Dev nD) (k : Fin 10) : owed₀ d (recvCell c k) () = if d = peer c then credit k else 0 := by
  unfold owed₀ oweFrom
  rw [Pi.add_apply, Finsupp.add_apply, tallyAt_ne_cell (fun h => by cases (congrArg Prod.snd h)), Finsupp.zero_apply, Nat.add_zero,
    Finset.sum_apply, Finsupp.finset_sum_apply]
  by_cases hd : d = peer c
  · rw [if_pos hd, Finset.sum_eq_single k]
    · rw [tallyAt_apply, if_pos]; rw [peer_eq_iff.mpr hd]; exact ⟨rfl, rfl⟩
    · intro j _ hj
      rw [tallyAt_apply, if_neg fun h => hj (recv_eq h.1).2.symm]
    · intro hk; exact absurd (Finset.mem_filter.mpr ⟨Finset.mem_univ k, Nat.zero_le _⟩) hk
  · rw [if_neg hd]
    refine Finset.sum_eq_zero fun j _ => ?_
    rw [tallyAt_apply, if_neg fun h => hd (peer_eq_iff.mp (recv_eq h.1).1.symm)]

theorem launch_bar (c : Dev nD) :
    tallyOn (barCell c) (launchCredit (Pipeline.owing owed₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

theorem launch_recv (c : Dev nD) (k : Fin 10) :
    tallyOn (recvCell c k) (launchCredit (Pipeline.owing owed₀) 0 (recvCell c k)) = (tallyAt (recvCell c k) () (credit k) : CellTallies nD τ sig Unit) := by
  unfold tallyAt; refine congrArg _ (Finsupp.ext fun u => ?_); cases u
  rw [Pipeline.launchCredit_owing, Finsupp.single_eq_same, Finset.sum_congr rfl fun d _ => owed_recv d c k,
    Finset.sum_ite_eq' Finset.univ (peer c) fun _ => credit k, if_pos (Finset.mem_univ _)]

/-- The credits device `c` waits for, out of those the launch grants it. -/
theorem creds (c : Dev nD) : (Pipeline.launchCred owed₀ c : sProp 𝕄) ⊢ credits c := by
  unfold Pipeline.launchCred credits
  let e : Fin 10 ↪ SemLoc sig := ⟨fun k => slotSem (recvJ k), fun j k h => Sum.inr.inj (Sum.inr.inj (slotSem_injective h))⟩
  rw [bigSep_univ_at _ (SemLoc.reg barS), launch_bar]
  refine sep_mono_right ?_
  have hsub : Finset.univ.map e ⊆ Finset.univ.erase (SemLoc.reg barS) := fun q hq => by
    obtain ⟨k, _, rfl⟩ := Finset.mem_map.mp hq
    exact Finset.mem_erase.mpr ⟨fun h => Sum.inr_ne_inl (slotSem_injective (show slotSem (recvJ k) = slotSem barJ from h)), Finset.mem_univ _⟩
  refine BIBase.Entails.trans (bigSep_subset hsub) (Entails.of_eq ?_)
  rw [bigSep_map]
  exact bigSep_congr fun k _ => congrArg cred (launch_recv c k)

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ dealt m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ buffers
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ closed buffers
  iintro ⟨⟨HzB, Hz⟩, Hr⟩
  isplitl [HzB]; · iexact HzB
  isplitl [Hz] <;> iassumption

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (by fin_cases w <;> fin_cases s <;> decide)
    · show (levAts L lv : sProp 𝕄) ⊢ MayWait (c : Thread nD τ) _ () 0
      rw [MayWait_zero]; iintro -; iempintro

/-! ## The run -/

def finalA (c : Dev nD) (w : Fin cfg0.W) : Buf (Elt F) ((cfg0.win w).arr.view.loc (c : Thread nD τ)) := (dats m ρ 0 c).arrAt w cfg0.N

/-- Every device's arrays hold what the pipeline's data say. -/
def Final : PUnit × MemSt nD τ sig (Elt F) → Prop := fun r =>
  ∀ c : Dev nD, ∀ w : Fin cfg0.W, r.2.mem ((cfg0.win w).arr.view.loc (c : Thread nD τ)) = finalA m ρ c w

/-- From any memory with zero counters, for any float values: every weakly fair execution of the program on the four
    devices ends, with every device's arrays at their final contents and every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := L) (lv := lv) (hL := L_of_ne) (hwaits := waits m ρ)
    (G := minted m ρ) (G' := dealt m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The two operand arrays hold after the run what they held before. -/
theorem finalA_a (c : Dev nD) : finalA m ρ c (0 : Fin 3) = (s₀ m ρ).mem ((c : Thread nD τ).loc main_arg0) :=
  (dats (F := F) m ρ 0 c).arrAt_in (0 : Fin 3) rfl _
theorem finalA_b (c : Dev nD) : finalA m ρ c (1 : Fin 3) = (s₀ m ρ).mem ((c : Thread nD τ).loc main_arg1) :=
  (dats (F := F) m ρ 0 c).arrAt_in (1 : Fin 3) rfl _

end Cert.PartnerSum

end
-- ==== Proof.Product.lean ====
/-
The values at exact arithmetic: what each band of the exchange holds, as sums of products of the operands' entries.

Over the extended reals a change of float format is the identity, so a band as sent is the band as computed, and device
`c`'s result is its own product plus its partner's.
-/
module

public import proofs.«01_k».proof.Proof.Chunks
public import Idealize.ShloMosaic.Lib.MatmulPlain
public import Idealize.ShloMosaic.Lib.Pipeline.Value

@[expose] public section

set_option maxRecDepth 16384

noncomputable section

namespace Cert.PartnerSum

open Cert.KernelIdeal Cert.KernelIdeal.Gen

open Idealize.ShloMosaic
open Idealize.ShloMosaic.TcCoe
open Idealize.ShloMosaic.ValueIdx
open Idealize.SL Idealize.SL.Sem
open scoped BigOperators

/-! ## One band of a product -/

/-- The entry at `y` of the product of a 1024 × 512 block with a 512 × 1024 block. -/
def prodAt (A : FVec Ideal S1024x512 .f32) (B : FVec Ideal S512x1024 .f32) (y : S1024x1024.Idx) : EReal :=
  ∑ t : Fin 512, A (ix2 (y 0) t) * B (ix2 t (y 1))

/-- A product onto an accumulator of zeros, at an index: the sum over the 512 contracted positions. -/
theorem matmul_zero_at {M : ℕ} (a : FVec Ideal ⟨2, ![M, 512]⟩ .f32) (b : FVec Ideal S512x1024 .f32)
    (y : Shape.Idx ⟨2, ![M, 1024]⟩) :
    matmul (DotDims.plain M 512 1024) none a b (constant ⟨2, ![M, 1024]⟩ .f32 0x00000000#32) y
      = ∑ t : Fin 512, a (ix2 (y 0) t) * b (ix2 t (y 1)) := by
  conv_lhs => rw [eq_ix2 y]
  refine (Ideal.matmul_plain_apply none a b _ (y 0) (y 1)).trans ?_
  rw [show (constant (F := Ideal) ⟨2, ![M, 1024]⟩ .f32 0x00000000#32) (ix2 (y 0) (y 1)) = (0 : EReal) from Ideal.ofBits_zero_f32, zero_add]

/-- The rows `lo ≤ i < lo + M` of the left block, loaded and multiplied with the right block, are those rows of the
    product. -/
theorem band_product {M lo : ℕ} (hA : ∀ a, (![lo, 0] : Fin 2 → ℕ) a + (⟨2, ![M, 512]⟩ : Shape).size a ≤ S1024x512.size a)
    (hO : ∀ a, (![lo, 0] : Fin 2 → ℕ) a + (⟨2, ![M, 1024]⟩ : Shape).size a ≤ S1024x1024.size a)
    (A : FVec Ideal S1024x512 .f32) (B : FVec Ideal S512x1024 .f32) (y : Shape.Idx ⟨2, ![M, 1024]⟩) :
    matmul (DotDims.plain M 512 1024) none
        (fun x => A ((Rect.unit (s := S1024x512) ![lo, 0] (⟨2, ![M, 512]⟩ : Shape).size hA).emb x) : FVec Ideal ⟨2, ![M, 512]⟩ .f32) B
        (constant ⟨2, ![M, 1024]⟩ .f32 0x00000000#32) y
      = prodAt A B ((Rect.unit (s := S1024x1024) ![lo, 0] (⟨2, ![M, 1024]⟩ : Shape).size hO).emb y) := by
  rw [matmul_zero_at]
  refine Finset.sum_congr rfl fun t _ => ?_
  congr 1
  · refine congrArg A (funext fun a => Fin.ext ?_)
    match a with
    | ⟨0, _⟩ => rfl
    | ⟨1, _⟩ => show 0 + 1 * t.val = t.val; omega
  · refine congrArg B (funext fun a => Fin.ext ?_)
    match a with
    | ⟨0, _⟩ => rfl
    | ⟨1, _⟩ => show (y 1).val = 0 + 1 * (y 1).val; omega

/-! ## The payloads

Every band's product is the same term at its own number of rows, up to casts of a shape to itself and changes of format;
every final sum is the pointwise one. -/

/-- The product of `M` loaded rows with the right block, onto zeros. -/
def band {M : ℕ} (a : FVec Ideal ⟨2, ![M, 512]⟩ .f32) (b : FVec Ideal S512x1024 .f32) : FVec Ideal ⟨2, ![M, 1024]⟩ .f32 :=
  matmul (DotDims.plain M 512 1024) none a b (constant ⟨2, ![M, 1024]⟩ .f32 0x00000000#32)

section Payloads

variable (b : FVec Ideal S512x1024 .f32) (a32 : FVec Ideal S32x512 .f32) (a64 : FVec Ideal S64x512 .f32) (a : FVec Ideal S128x512 .f32)

/-! The products stored as a device's own bands: -/

theorem pay1_eq : k0_pay1 a32 b = band a32 b := by unfold k0_pay1; rw [shapeCast_self, shapeCast_self]; rfl
theorem pay3_eq : k0_pay3 a32 b = band a32 b := by unfold k0_pay3; rw [shapeCast_self, shapeCast_self]; rfl
theorem pay5_eq : k0_pay5 a64 b = band a64 b := by unfold k0_pay5; rw [shapeCast_self, shapeCast_self]; rfl
theorem pay7_eq : k0_pay7 a b = band a b := by unfold k0_pay7; rw [shapeCast_self, shapeCast_self]; rfl
theorem pay9_eq : k0_pay9 a b = band a b := by unfold k0_pay9; rw [shapeCast_self, shapeCast_self]; rfl
theorem pay15_eq : k0_pay15 a b = band a b := by unfold k0_pay15; rw [shapeCast_self, shapeCast_self]; rfl
theorem pay17_eq : k0_pay17 a b = band a b := by unfold k0_pay17; rw [shapeCast_self, shapeCast_self]; rfl
theorem pay22_eq : k0_pay22 a b = band a b := by unfold k0_pay22; rw [shapeCast_self, shapeCast_self]; rfl
theorem pay13_eq : k0_pay13 (k0_pay11 a) (k0_pay12 b) (constant S128x1024 .f32 0x00000000#32) = band a b := by
  unfold k0_pay13 k0_pay11 k0_pay12; rw [shapeCast_self, shapeCast_self]; rfl
theorem pay20_eq : k0_pay20 (k0_pay19 a) b = band a b := by
  unfold k0_pay20 k0_pay19; rw [shapeCast_self, shapeCast_self]; rfl

/-! A change of format changes no value, so what is sent is the product: -/

theorem pay2_eq : (k0_pay2 (F := Ideal) a32 b : S32x1024.Idx → EReal) = band a32 b := (shapeCast_self _ _).trans (pay1_eq b a32)
theorem pay4_eq : (k0_pay4 (F := Ideal) a32 b : S32x1024.Idx → EReal) = band a32 b := (shapeCast_self _ _).trans (pay3_eq b a32)
theorem pay8_eq : (k0_pay8 (F := Ideal) a b : S128x1024.Idx → EReal) = band a b := (shapeCast_self _ _).trans (pay7_eq b a)
theorem pay10_eq : (k0_pay10 (F := Ideal) a b : S128x1024.Idx → EReal) = band a b := (shapeCast_self _ _).trans (pay9_eq b a)
theorem pay16_eq : (k0_pay16 (F := Ideal) a b : S128x1024.Idx → EReal) = band a b := (shapeCast_self _ _).trans (pay15_eq b a)
theorem pay18_eq : (k0_pay18 (F := Ideal) a b : S128x1024.Idx → EReal) = band a b := (shapeCast_self _ _).trans (pay17_eq b a)
theorem pay23_eq : (k0_pay23 (F := Ideal) a b : S128x1024.Idx → EReal) = band a b := (shapeCast_self _ _).trans (pay22_eq b a)
theorem pay6_eq : (k0_pay6 (F := Ideal) (k0_pay5 a64 b) : S64x1024.Idx → EReal) = band a64 b := (shapeCast_self _ _).trans (pay5_eq b a64)
theorem pay14_eq : (k0_pay14 (F := Ideal) (k0_pay11 a) (k0_pay12 b) (constant S128x1024 .f32 0x00000000#32) : S128x1024.Idx → EReal) = band a b :=
  (shapeCast_self _ _).trans (pay13_eq b a)
theorem pay21_eq : (k0_pay21 (F := Ideal) (k0_pay19 a) b : S128x1024.Idx → EReal) = band a b :=
  (shapeCast_self _ _).trans (pay20_eq b a)

/-! The sum of a device's own band `o` and the band `e` it received: -/

theorem pay24_eq (e : FVec Ideal S32x1024 .bf16) (o : FVec Ideal S32x1024 .f32) (y) : k0_pay24 e o y = (o y + e y : EReal) := by
  unfold k0_pay24; rw [shapeCast_self]; rfl
theorem pay25_eq (e : FVec Ideal S32x1024 .bf16) (o : FVec Ideal S32x1024 .f32) (y) : k0_pay25 e o y = (o y + e y : EReal) := by
  unfold k0_pay25; rw [shapeCast_self]; rfl
theorem pay26_eq (e : FVec Ideal S64x1024 .fp8e4m3) (o : FVec Ideal S64x1024 .f32) (y) : k0_pay26 e o y = (o y + e y : EReal) := by
  unfold k0_pay26; rw [shapeCast_self]; rfl
theorem pay27_eq (e : FVec Ideal S128x1024 .fp8e4m3) (o : FVec Ideal S128x1024 .f32) (y) : k0_pay27 e o y = (o y + e y : EReal) := by
  unfold k0_pay27; rw [shapeCast_self]; rfl
theorem pay28_eq (e : FVec Ideal S128x1024 .fp8e4m3) (o : FVec Ideal S128x1024 .f32) (y) : k0_pay28 e o y = (o y + e y : EReal) := by
  unfold k0_pay28; rw [shapeCast_self]; rfl
theorem pay29_eq (e : FVec Ideal S128x1024 .fp8e4m3) (o : FVec Ideal S128x1024 .f32) (y) : k0_pay29 e o y = (o y + e y : EReal) := by
  unfold k0_pay29; rw [shapeCast_self]; rfl
theorem pay30_eq (e : FVec Ideal S128x1024 .fp8e4m3) (o : FVec Ideal S128x1024 .f32) (y) : k0_pay30 e o y = (o y + e y : EReal) := by
  unfold k0_pay30; rw [shapeCast_self]; rfl
theorem pay31_eq (e : FVec Ideal S128x1024 .fp8e4m3) (o : FVec Ideal S128x1024 .f32) (y) : k0_pay31 e o y = (o y + e y : EReal) := by
  unfold k0_pay31; rw [shapeCast_self]; rfl
theorem pay32_eq (e : FVec Ideal S128x1024 .fp8e4m3) (o : FVec Ideal S128x1024 .f32) (y) : k0_pay32 e o y = (o y + e y : EReal) := by
  unfold k0_pay32; rw [shapeCast_self]; rfl
theorem pay33_eq (e : FVec Ideal S128x1024 .fp8e4m3) (o : FVec Ideal S128x1024 .f32) (y) : k0_pay33 e o y = (o y + e y : EReal) := by
  unfold k0_pay33; rw [shapeCast_self]; rfl

end Payloads

/-! ## The bands of the exchange -/

variable (m : (ℓ : Loc nD τ sig) → Buf (Elt Ideal) ℓ) (ρ : Dev nD → PrngReg)

/-- Loading the right operand whole gives its contents. -/
theorem bRd_eq (c : Dev nD) : bRd m ρ c = bAt m ρ c := by
  funext x
  refine congrArg (bAt m ρ c) (funext fun a => Fin.ext ?_)
  match a with
  | ⟨0, _⟩ => show 0 + 1 * (x 0).val = (x 0).val; omega
  | ⟨1, _⟩ => show 0 + 1 * (x 1).val = (x 1).val; omega

/-- A band of rows of the left operand as loaded, times the right operand as loaded, at an index: the product of the two blocks
    there. -/
theorem band_loaded (c : Dev nD) {M lo : ℕ} (hA : ∀ a, (![lo, 0] : Fin 2 → ℕ) a + (⟨2, ![M, 512]⟩ : Shape).size a ≤ S1024x512.size a)
    (hO : ∀ a, (![lo, 0] : Fin 2 → ℕ) a + (⟨2, ![M, 1024]⟩ : Shape).size a ≤ S1024x1024.size a)
    (y : Shape.Idx ⟨2, ![M, 1024]⟩) :
    band (aM.view.readAt (Elt Ideal) (Rect.unit (s := S1024x512) ![lo, 0] (⟨2, ![M, 512]⟩ : Shape).size hA).toLoadRect (aAt m ρ c) : FVec Ideal ⟨2, ![M, 512]⟩ .f32) (bRd m ρ c) y
      = prodAt (aAt m ρ c) (bAt m ρ c) ((Rect.unit (s := S1024x1024) ![lo, 0] (⟨2, ![M, 1024]⟩ : Shape).size hO).emb y) := by
  rw [bRd_eq]
  exact band_product hA hO (aAt m ρ c) (bAt m ρ c) y

/-- Band `k` of device `c`'s own product is those rows of the product of its two blocks, -/
theorem own_at (c : Dev nD) : ∀ (k : Fin 10) (y : (oR k).shape.Idx),
    own m ρ c k y = prodAt (aAt m ρ c) (bAt m ρ c) ((oR k).emb y)
  | 0, y => (congrFun (pay1_eq (bRd m ρ c) (aRd m ρ c 0)) y).trans (band_loaded m ρ c (lo := 0) inb_S1024x512_S32x512_0_0 inb_S1024x1024_S32x1024_0_0 y)
  | 1, y => (congrFun (pay3_eq (bRd m ρ c) (aRd m ρ c 1)) y).trans (band_loaded m ρ c (lo := 32) inb_S1024x512_S32x512_32_0 inb_S1024x1024_S32x1024_32_0 y)
  | 2, y => (congrFun (pay5_eq (bRd m ρ c) (aRd m ρ c 2)) y).trans (band_loaded m ρ c (lo := 64) inb_S1024x512_S64x512_64_0 inb_S1024x1024_S64x1024_64_0 y)
  | 3, y => (congrFun (pay7_eq (bRd m ρ c) (aRd m ρ c 3)) y).trans (band_loaded m ρ c (lo := 128) inb_S1024x512_S128x512_128_0 inb_S1024x1024_S128x1024_128_0 y)
  | 4, y => (congrFun (pay9_eq (bRd m ρ c) (aRd m ρ c 4)) y).trans (band_loaded m ρ c (lo := 256) inb_S1024x512_S128x512_256_0 inb_S1024x1024_S128x1024_256_0 y)
  | 5, y => (congrFun (pay13_eq (bRd m ρ c) (aRd m ρ c 5)) y).trans (band_loaded m ρ c (lo := 384) inb_S1024x512_S128x512_384_0 inb_S1024x1024_S128x1024_384_0 y)
  | 6, y => (congrFun (pay15_eq (bRd m ρ c) (aRd m ρ c 6)) y).trans (band_loaded m ρ c (lo := 512) inb_S1024x512_S128x512_512_0 inb_S1024x1024_S128x1024_512_0 y)
  | 7, y => (congrFun (pay17_eq (bRd m ρ c) (aRd m ρ c 7)) y).trans (band_loaded m ρ c (lo := 640) inb_S1024x512_S128x512_640_0 inb_S1024x1024_S128x1024_640_0 y)
  | 8, y => (congrFun (pay20_eq (bRd m ρ c) (aRd m ρ c 8)) y).trans (band_loaded m ρ c (lo := 768) inb_S1024x512_S128x512_768_0 inb_S1024x1024_S128x1024_768_0 y)
  | 9, y => (congrFun (pay22_eq (bRd m ρ c) (aRd m ρ c 9)) y).trans (band_loaded m ρ c (lo := 896) inb_S1024x512_S128x512_896_0 inb_S1024x1024_S128x1024_896_0 y)

/-- Band `k` of device `c`'s result is those rows of its own product plus those of its partner's. -/
theorem tot_at (c : Dev nD) : ∀ (k : Fin 10) (y : (oR k).shape.Idx),
    tot m ρ c k y = prodAt (aAt m ρ c) (bAt m ρ c) ((oR k).emb y) + prodAt (aAt m ρ (peer c)) (bAt m ρ (peer c)) ((oR k).emb y)
  | 0, y => (pay24_eq (hSent m ρ (peer c) 0) (own m ρ c 0) y).trans (congrArg₂ (· + ·) (own_at m ρ c 0 y)
      ((congrFun (pay2_eq (bRd m ρ (peer c)) (aRd m ρ (peer c) 0)) y).trans (band_loaded m ρ (peer c) (lo := 0) inb_S1024x512_S32x512_0_0 inb_S1024x1024_S32x1024_0_0 y)))
  | 1, y => (pay25_eq (hSent m ρ (peer c) 1) (own m ρ c 1) y).trans (congrArg₂ (· + ·) (own_at m ρ c 1 y)
      ((congrFun (pay4_eq (bRd m ρ (peer c)) (aRd m ρ (peer c) 1)) y).trans (band_loaded m ρ (peer c) (lo := 32) inb_S1024x512_S32x512_32_0 inb_S1024x1024_S32x1024_32_0 y)))
  | 2, y => (pay26_eq (eSent m ρ (peer c) 0) (own m ρ c 2) y).trans (congrArg₂ (· + ·) (own_at m ρ c 2 y)
      ((congrFun (pay6_eq (bRd m ρ (peer c)) (aRd m ρ (peer c) 2)) y).trans (band_loaded m ρ (peer c) (lo := 64) inb_S1024x512_S64x512_64_0 inb_S1024x1024_S64x1024_64_0 y)))
  | 3, y => (pay27_eq (eSent m ρ (peer c) 1) (own m ρ c 3) y).trans (congrArg₂ (· + ·) (own_at m ρ c 3 y)
      ((congrFun (pay8_eq (bRd m ρ (peer c)) (aRd m ρ (peer c) 3)) y).trans (band_loaded m ρ (peer c) (lo := 128) inb_S1024x512_S128x512_128_0 inb_S1024x1024_S128x1024_128_0 y)))
  | 4, y => (pay28_eq (eSent m ρ (peer c) 2) (own m ρ c 4) y).trans (congrArg₂ (· + ·) (own_at m ρ c 4 y)
      ((congrFun (pay10_eq (bRd m ρ (peer c)) (aRd m ρ (peer c) 4)) y).trans (band_loaded m ρ (peer c) (lo := 256) inb_S1024x512_S128x512_256_0 inb_S1024x1024_S128x1024_256_0 y)))
  | 5, y => (pay29_eq (eSent m ρ (peer c) 3) (own m ρ c 5) y).trans (congrArg₂ (· + ·) (own_at m ρ c 5 y)
      ((congrFun (pay14_eq (bRd m ρ (peer c)) (aRd m ρ (peer c) 5)) y).trans (band_loaded m ρ (peer c) (lo := 384) inb_S1024x512_S128x512_384_0 inb_S1024x1024_S128x1024_384_0 y)))
  | 6, y => (pay30_eq (eSent m ρ (peer c) 4) (own m ρ c 6) y).trans (congrArg₂ (· + ·) (own_at m ρ c 6 y)
      ((congrFun (pay16_eq (bRd m ρ (peer c)) (aRd m ρ (peer c) 6)) y).trans (band_loaded m ρ (peer c) (lo := 512) inb_S1024x512_S128x512_512_0 inb_S1024x1024_S128x1024_512_0 y)))
  | 7, y => (pay31_eq (eSent m ρ (peer c) 5) (own m ρ c 7) y).trans (congrArg₂ (· + ·) (own_at m ρ c 7 y)
      ((congrFun (pay18_eq (bRd m ρ (peer c)) (aRd m ρ (peer c) 7)) y).trans (band_loaded m ρ (peer c) (lo := 640) inb_S1024x512_S128x512_640_0 inb_S1024x1024_S128x1024_640_0 y)))
  | 8, y => (pay32_eq (eSent m ρ (peer c) 6) (own m ρ c 8) y).trans (congrArg₂ (· + ·) (own_at m ρ c 8 y)
      ((congrFun (pay21_eq (bRd m ρ (peer c)) (aRd m ρ (peer c) 8)) y).trans (band_loaded m ρ (peer c) (lo := 768) inb_S1024x512_S128x512_768_0 inb_S1024x1024_S128x1024_768_0 y)))
  | 9, y => (pay33_eq (eSent m ρ (peer c) 7) (own m ρ c 9) y).trans (congrArg₂ (· + ·) (own_at m ρ c 9 y)
      ((congrFun (pay23_eq (bRd m ρ (peer c)) (aRd m ρ (peer c) 9)) y).trans (band_loaded m ρ (peer c) (lo := 896) inb_S1024x512_S128x512_896_0 inb_S1024x1024_S128x1024_896_0 y)))

/-- Device `c`'s result, at every index: the product of its own blocks plus the product of its partner's. -/
theorem outAt_at (c : Dev nD) (y : S1024x1024.Idx) :
    outAt m ρ c y = prodAt (aAt m ρ c) (bAt m ρ c) y + prodAt (aAt m ρ (peer c)) (bAt m ρ (peer c)) y := by
  obtain ⟨k, -, hk⟩ := Finset.mem_biUnion.mp (oR_cover ▸ Finset.mem_univ y)
  obtain ⟨x, -, rfl⟩ := Finset.mem_map.mp ((oR k).map_emb_univ ▸ hk)
  exact (congrFun (outAt_band m ρ c k) x).trans (tot_at m ρ c k x)

end Cert.PartnerSum

end
-- ==== Proof.Value.lean ====
/-
What the result array holds, and that it is the device's block of the product of the whole matrices.

Device `c` holds 512 of the 1024 contracted columns and rows; its partner holds the other 512, for the same block of the
result. So the two products sum to the whole contraction.
-/
module

public import proofs.«01_k».proof.Proof.Product
public import proofs.«01_k».proof.Proof.Launch
public import proofs.«01_k».proof.Proof.Gen.ReferenceIdeal.Run
public import Idealize.ShloMosaic.Lib.Layout
public import Idealize.ShloMosaic.Lib.StackMember

@[expose] public section

set_option maxRecDepth 16384

noncomputable section

namespace Cert.PartnerSum

open Cert.KernelIdeal Cert.KernelIdeal.Gen

open Idealize.ShloMosaic
open Idealize.ShloMosaic.TcCoe
open Idealize.ShloMosaic.ValueIdx
open Idealize.SL Idealize.SL.Sem
open scoped BigOperators

/-! ## The arrays before and after -/

section Arrays

variable {F : FTy → Type} [FloatOps F]
variable (m : (ℓ : Loc nD τ sig) → Buf (Elt F) ℓ) (ρ : Dev nD → PrngReg)

/-- Each window's one block is its whole array: the left operand, -/
theorem emb_a (x : S1024x512.Idx) : (win0_0.blk (0 : Fin 1)).view.emb x = x := funext fun a => Fin.ext (by
  match a with
  | ⟨0, _⟩ => show 0 + 1 * (x 0).val = (x 0).val; omega
  | ⟨1, _⟩ => show 0 + 1 * (x 1).val = (x 1).val; omega)
/-- the right operand, -/
theorem emb_b (x : S512x1024.Idx) : (win0_1.blk (0 : Fin 1)).view.emb x = x := funext fun a => Fin.ext (by
  match a with
  | ⟨0, _⟩ => show 0 + 1 * (x 0).val = (x 0).val; omega
  | ⟨1, _⟩ => show 0 + 1 * (x 1).val = (x 1).val; omega)
/-- the result. -/
theorem emb_o (t : Fin cfg0.N) (x : S1024x1024.Idx) : ((cfg0.win 2).blk t).view.emb x = x := by
  obtain rfl : t = t0_0 := by fin_cases t; rfl
  exact funext fun a => Fin.ext (by
    match a with
    | ⟨0, _⟩ => show 0 + 1 * (x 0).val = (x 0).val; omega
    | ⟨1, _⟩ => show 0 + 1 * (x 1).val = (x 1).val; omega)

/-- The operands as staged are the operand arrays. -/
theorem aAt_eq (c : Dev nD) : aAt m ρ c = m ((c : Thread nD τ).loc main_arg0) :=
  funext fun x => congrArg (m ((c : Thread nD τ).loc main_arg0)) (emb_a x)
theorem bAt_eq (c : Dev nD) : bAt m ρ c = m ((c : Thread nD τ).loc main_arg1) :=
  funext fun x => congrArg (m ((c : Thread nD τ).loc main_arg1)) (emb_b x)

/-- The result array ends at the ten summed bands. -/
theorem finalA_o (c : Dev nD) : finalA m ρ c (2 : Fin 3) = outAt m ρ c :=
  (dats m ρ 0 c).arrAt_eq_of_cover (2 : Fin 3) (outAt m ρ c)
    (fun t _ => funext fun x => (congrArg (outAt m ρ c) (emb_o t x)).symm)
    (fun i => ⟨t0_0, flush0_2 t0_0, Finset.mem_map.mpr ⟨i, Finset.mem_univ _, emb_o t0_0 i⟩⟩)

end Arrays

/-! ## Two halves of a contraction -/

/-- The mesh row and column of a device. -/
theorem row_of (c : Dev nD) : Layout.meshLin [2, 2] c.val [0] = c.val / 2 := by revert c; decide
theorem col_of (c : Dev nD) : Layout.meshLin [2, 2] c.val [1] = c.val % 2 := by revert c; decide

/-- A sum over 1024 positions is the sum over the first 512 plus the sum over the last. -/
theorem sum_halves (f : Fin 1024 → EReal) :
    ∑ t, f t = (∑ t : Fin 512, f ⟨t.val, by omega⟩) + ∑ t : Fin 512, f ⟨512 + t.val, by omega⟩ :=
  Fin.sum_univ_add (a := 512) (b := 512) f

/-- A half's sum, over whichever half the device holds. -/
theorem sum_pair (f : Fin 1024 → EReal) (c : Dev nD) (g : Dev nD → EReal)
    (hg : ∀ d : Dev nD, g d = ∑ t : Fin 512, f ⟨d.val / 2 * 512 + t.val, by have := d.isLt; have : d.val < 4 := this; omega⟩) :
    g c + g (peer c) = ∑ t, f t := by
  rw [sum_halves, hg, hg]
  have h4 : c.val < 4 := c.isLt
  have hp : (peer c).val = (c.val + 2) % 4 := rfl
  by_cases h : c.val < 2
  · congr 1 <;> refine Finset.sum_congr rfl fun t _ => congrArg f (Fin.ext ?_)
    · show c.val / 2 * 512 + t.val = t.val; omega
    · show (peer c).val / 2 * 512 + t.val = 512 + t.val; rw [hp]; omega
  · rw [add_comm]
    congr 1 <;> refine Finset.sum_congr rfl fun t _ => congrArg f (Fin.ext ?_)
    · show (peer c).val / 2 * 512 + t.val = t.val; rw [hp]; omega
    · show c.val / 2 * 512 + t.val = 512 + t.val; omega

/-! ## The result is the block of the whole product -/

/-- The product of the two whole matrices. -/
def whole (A : FVec Ideal ⟨2, ![1024, 1024]⟩ .f32) (B : FVec Ideal ⟨2, ![1024, 2048]⟩ .f32) : FVec Ideal ⟨2, ![1024, 2048]⟩ .f32 :=
  Host.dotGeneral Cert.ReferenceIdeal.dot_S1024x1024_S1024x2048_S1024x2048_1_0_0_1_n_n none A B

/-- It holds, at an index, the sum over the 1024 contracted positions. -/
theorem whole_at (A : FVec Ideal ⟨2, ![1024, 1024]⟩ .f32) (B : FVec Ideal ⟨2, ![1024, 2048]⟩ .f32) (i : Fin 1024) (j : Fin 2048) :
    whole A B (ix2 i j) = ∑ t : Fin 1024, A (ix2 i t) * B (ix2 t j) :=
  StackMember.dotGeneral_plain_apply none A B i j

/-- When every device holds its blocks of two whole matrices, every device's result is its block of their product. -/
theorem outAt_eq_block (m : (ℓ : Loc nD τ sig) → Buf (Elt Ideal) ℓ) (ρ : Dev nD → PrngReg)
    (A : FVec Ideal ⟨2, ![1024, 1024]⟩ .f32) (B : FVec Ideal ⟨2, ![1024, 2048]⟩ .f32)
    (hA : ∀ c : Dev nD, m ((c : Thread nD τ).loc main_arg0)
      = Layout.blockN ⟨2, ![1024, 512]⟩ ⟨2, ![1024, 1024]⟩ (Layout.meshBlock [2, 2] ![[], [0]] c) A)
    (hB : ∀ c : Dev nD, m ((c : Thread nD τ).loc main_arg1)
      = Layout.blockN ⟨2, ![512, 1024]⟩ ⟨2, ![1024, 2048]⟩ (Layout.meshBlock [2, 2] ![[0], [1]] c) B)
    (c : Dev nD) :
    outAt m ρ c = Layout.blockN ⟨2, ![1024, 1024]⟩ ⟨2, ![1024, 2048]⟩ (Layout.meshBlock [2, 2] ![[], [1]] c) (whole A B) := by
  funext y
  have hy0 : (y 0).val < 1024 := (y 0).isLt
  have hy1 : (y 1).val < 1024 := (y 1).isLt
  have h4 (d : Dev nD) : d.val < 4 := d.isLt
  have hcol : c.val % 2 * 1024 + (y 1).val < 2048 := by omega
  rw [outAt_at, Layout.blockN_apply]
  have hi : Layout.TilesN.idx (S := ⟨2, ![1024, 1024]⟩) (T := ⟨2, ![1024, 2048]⟩) (by decide) (Layout.meshBlock [2, 2] ![[], [1]] c) y
      = ix2 ⟨(y 0).val, hy0⟩ ⟨c.val % 2 * 1024 + (y 1).val, hcol⟩ := funext fun a => Fin.ext (by
    match a with
    | ⟨0, _⟩ => show 0 * 1024 + (y 0).val = (y 0).val; omega
    | ⟨1, _⟩ => show Layout.meshLin [2, 2] c.val [1] * 1024 + (y 1).val = _; rw [col_of])
  rw [hi, whole_at]
  refine (sum_pair (fun t => A (ix2 ⟨(y 0).val, hy0⟩ t) * B (ix2 t ⟨c.val % 2 * 1024 + (y 1).val, hcol⟩)) c
    (fun d => ∑ t : Fin 512, A (ix2 ⟨(y 0).val, hy0⟩ ⟨d.val / 2 * 512 + t.val, by have := h4 d; omega⟩)
      * B (ix2 ⟨d.val / 2 * 512 + t.val, by have := h4 d; omega⟩ ⟨c.val % 2 * 1024 + (y 1).val, hcol⟩)) (fun _ => rfl)).symm ▸ ?_
  have key (d : Dev nD) (hd : d.val % 2 = c.val % 2) : prodAt (aAt m ρ d) (bAt m ρ d) y
      = ∑ t : Fin 512, A (ix2 ⟨(y 0).val, hy0⟩ ⟨d.val / 2 * 512 + t.val, by have := h4 d; omega⟩)
        * B (ix2 ⟨d.val / 2 * 512 + t.val, by have := h4 d; omega⟩ ⟨c.val % 2 * 1024 + (y 1).val, hcol⟩) := by
    unfold prodAt
    rw [aAt_eq, bAt_eq, hA, hB]
    refine Finset.sum_congr rfl fun t _ => congrArg₂ (· * ·) (congrArg A (funext fun a => Fin.ext ?_)) (congrArg B (funext fun a => Fin.ext ?_))
    · match a with
      | ⟨0, _⟩ => show 0 * 1024 + (y 0).val = (y 0).val; omega
      | ⟨1, _⟩ => show Layout.meshLin [2, 2] d.val [0] * 512 + t.val = _; rw [row_of]
    · match a with
      | ⟨0, _⟩ => show Layout.meshLin [2, 2] d.val [0] * 512 + t.val = _; rw [row_of]
      | ⟨1, _⟩ => show Layout.meshLin [2, 2] d.val [1] * 1024 + (y 1).val = _; rw [col_of, hd]
  rw [key c rfl, key (peer c) (by show (c.val + 2) % 4 % 2 = c.val % 2; omega)]

end Cert.PartnerSum

end
-- ==== Proof.SameText.lean ====
/-
The kernel and the idealized kernel are one program: no operation was rewritten, so their body tables and entry functions
are equal for any float values, and a run of one is a run of the other.
-/
module

public import proofs.«01_k».proof.Defs
public import proofs.«01_k».proof.Proof.Gen.Kernel
public import proofs.«01_k».proof.Proof.Gen.KernelIdeal

@[expose] public section

set_option maxRecDepth 16384

noncomputable section

namespace Cert.PartnerSum

open Idealize.ShloMosaic Idealize.SL.Sem

variable {F : FTy → Type} [FloatOps F]

/-- The two kernel tables have the same entry at their one label, -/
theorem kernels_eq : Cert.Kernel.defs₀ (F := F) = Cert.KernelIdeal.defs₀ := by
  unfold Cert.Kernel.defs₀ Cert.KernelIdeal.defs₀
  refine congrArg (Defs.onTc (Λ := Cert.KernelIdeal.Λ₀)) (funext fun l => funext fun x => ?_)
  match l, x with
  | 0, (t, s) => rfl

/-- so the two body tables are equal, -/
theorem defs_eq : Cert.Kernel.defs (F := F) = Cert.KernelIdeal.defs :=
  congrArg (Pipeline.defs Cert.KernelIdeal.pcfgs) kernels_eq

/-- and so are the entry functions. -/
theorem main_eq : Cert.Kernel.main (F := F) = Cert.KernelIdeal.main := rfl

end Cert.PartnerSum

end
-- ==== Proof.lean ====
/-
The five claims: the kernel runs to the end with its arguments unchanged and every semaphore counter at zero, on bit
patterns and at exact arithmetic; so does the reference; the idealized kernel is the kernel; and its result, on every
device, is the device's block of the product of the two whole matrices.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import proofs.«01_k».proof.Proof.SameText
public import Idealize.ShloMosaic.Adequacy
public import Idealize.ShloMosaic.Init

@[expose] public section

noncomputable section

namespace Cert.Proof

open Idealize.ShloMosaic Idealize.SL.Sem Cert.PartnerSum

/-- For any float values: the kernel runs, its arguments stay, and every semaphore counter ends at zero. -/
theorem run_args {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono
    (fun _ h => ⟨fun c => ⟨(h.1 c (0 : Fin 3)).trans (finalA_a m ρ c), (h.1 c (1 : Fin 3)).trans (finalA_b m ρ c)⟩, h.2⟩)
    (run_main m ρ)

/-- The kernel on bit patterns. It and the idealized kernel have one text, so the run proved for any float values is this
    one's too. -/
theorem frame_kernel : Cert.quiescent_Kernel := fun m ρ _ => by
  rw [defs_eq, main_eq]
  exact run_args (F := Bits) m ρ

/-- The kernel at exact arithmetic. -/
theorem frame_kernelIdeal : Cert.quiescent_KernelIdeal := fun m ρ _ => run_args (F := Ideal) m ρ

/-- The reference at exact arithmetic: its arguments stay too, and it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- The idealized kernel and the idealized reference agree: every device's result is its block of the product of the whole
    matrices, which is what the reference computes. -/
theorem algebraic : Cert.algebraic_KernelIdeal_ReferenceIdeal := fun m ρ m' ρ' _ hagree =>
  ⟨whole (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c (2 : Fin 3)).trans (finalA_o m ρ c)).trans
          (outAt_eq_block m ρ _ _ (fun d => (hagree d).1) (fun d => (hagree d).2) c),
        (h.1 c (0 : Fin 3)).trans (finalA_a m ρ c), (h.1 c (1 : Fin 3)).trans (finalA_b m ρ c)⟩)
      (run_main (F := Ideal) m ρ),
    (θ_run Cert.ReferenceIdeal.defs _ _).mono (fun _ h => h 0) (Cert.ReferenceIdeal.Value.run m' ρ')⟩

/-- The claims together. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
